-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 128]⟩ ⟨2, ![4096, 512]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 4096]⟩ ⟨2, ![512, 4096]⟩ (Layout.meshBlock [2, 4, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 4096]⟩ ⟨2, ![512, 4096]⟩ (Layout.meshBlock [2, 4, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S1024x4096 : Shape := ⟨2, ![1024, 4096]⟩
abbrev S1024x128 : Shape := ⟨2, ![1024, 128]⟩
abbrev S128x512 : Shape := ⟨2, ![128, 512]⟩
abbrev S1024x512 : Shape := ⟨2, ![1024, 512]⟩
abbrev S2048x4096 : Shape := ⟨2, ![2048, 4096]⟩
abbrev S4x512x4096 : Shape := ⟨3, ![4, 512, 4096]⟩
abbrev S2x512x4096 : Shape := ⟨3, ![2, 512, 4096]⟩
abbrev S2 : Shape := ⟨1, ![2]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S4096x512 : Shape := ⟨2, ![4096, 512]⟩
abbrev S1024x2048 : Shape := ⟨2, ![1024, 2048]⟩
abbrev S4x256x32x64 : Shape := ⟨4, ![4, 256, 32, 64]⟩
abbrev S4x32x256x64 : Shape := ⟨4, ![4, 32, 256, 64]⟩
abbrev S1024x64 : Shape := ⟨2, ![1024, 64]⟩
abbrev S1x256x128 : Shape := ⟨3, ![1, 256, 128]⟩
abbrev S256x128 : Shape := ⟨2, ![256, 128]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 23
  | .vmem => 46
  | .smem => 0
  | _ => 0

abbrev bufTy : (tb : Table) → Fin (tcTables nBuf tb) → BufTy
  | .hbm, ⟨0, _⟩ => ⟨S4x256x4096, .bf16⟩
  | .hbm, ⟨1, _⟩ => ⟨S4096x128, .bf16⟩
  | .hbm, ⟨2, _⟩ => ⟨S128x4096, .bf16⟩
  | .hbm, ⟨3, _⟩ => ⟨S128x4096, .bf16⟩
  | .hbm, ⟨4, _⟩ => ⟨S4096x4096, .bf16⟩
  | .hbm, ⟨5, _⟩ => ⟨S4096x2048, .bf16⟩
  | .hbm, ⟨6, _⟩ => ⟨S4096x64, .bf16⟩
  | .hbm, ⟨7, _⟩ => ⟨S4096x4096, .bf16⟩
  | .hbm, ⟨8, _⟩ => ⟨S1024x4096, .bf16⟩
  | .hbm, ⟨9, _⟩ => ⟨S1024x128, .bf16⟩
  | .hbm, ⟨10, _⟩ => ⟨S1024x4096, .bf16⟩
  | .hbm, ⟨11, _⟩ => ⟨S1024x4096, .bf16⟩
  | .hbm, ⟨12, _⟩ => ⟨S2048x4096, .bf16⟩
  | .hbm, ⟨13, _⟩ => ⟨S4x512x4096, .bf16⟩
  | .hbm, ⟨14, _⟩ => ⟨S4x512x4096, .bf16⟩
  | .hbm, ⟨15, _⟩ => ⟨S1024x4096, .bf16⟩
  | .hbm, ⟨16, _⟩ => ⟨S1024x2048, .bf16⟩
  | .hbm, ⟨17, _⟩ => ⟨S4x256x32x64, .bf16⟩
  | .hbm, ⟨18, _⟩ => ⟨S4x32x256x64, .bf16⟩
  | .hbm, ⟨19, _⟩ => ⟨S1024x64, .bf16⟩
  | .hbm, ⟨20, _⟩ => ⟨S1024x4096, .bf16⟩
  | .hbm, ⟨21, _⟩ => ⟨S1024x4096, .f32⟩
  | .hbm, ⟨22, _⟩ => ⟨S4x256x4096, .f32⟩
  | .local _ .vmem, ⟨0, _⟩ => ⟨S1024x4096, .bf16⟩
  | .local _ .vmem, ⟨1, _⟩ => ⟨S4096x128, .bf16⟩
  | .local _ .vmem, ⟨2, _⟩ => ⟨S1024x128, .bf16⟩
  | .local _ .vmem, ⟨3, _⟩ => ⟨S1024x128, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S128x512, .bf16⟩
  | .local _ .vmem, ⟨10, _⟩ => ⟨S128x512, .bf16⟩
  | .local _ .vmem, ⟨11, _⟩ => ⟨S1024x512, .bf16⟩
  | .local _ .vmem, ⟨12, _⟩ => ⟨S1024x512, .bf16⟩
  | .local _ .vmem, ⟨13, _⟩ => ⟨S4x512x4096, .bf16⟩
  | .local _ .vmem, ⟨14, _⟩ => ⟨S4x512x4096, .bf16⟩
  | .local _ .vmem, ⟨15, _⟩ => ⟨S2x512x4096, .bf16⟩
  | .local _ .vmem, ⟨16, _⟩ => ⟨S1024x4096, .bf16⟩
  | .local _ .vmem, ⟨17, _⟩ => ⟨S4096x512, .bf16⟩
  | .local _ .vmem, ⟨18, _⟩ => ⟨S4096x512, .bf16⟩
  | .local _ .vmem, ⟨19, _⟩ => ⟨S1024x512, .bf16⟩
  | .local _ .vmem, ⟨20, _⟩ => ⟨S1024x512, .bf16⟩
  | .local _ .vmem, ⟨21, _⟩ => ⟨S1024x4096, .bf16⟩
  | .local _ .vmem, ⟨22, _⟩ => ⟨S4096x512, .bf16⟩
  | .local _ .vmem, ⟨23, _⟩ => ⟨S4096x512, .bf16⟩
  | .local _ .vmem, ⟨24, _⟩ => ⟨S1024x512, .bf16⟩
  | .local _ .vmem, ⟨25, _⟩ => ⟨S1024x512, .bf16⟩
  | .local _ .vmem, ⟨26, _⟩ => ⟨S1024x4096, .bf16⟩
  | .local _ .vmem, ⟨27, _⟩ => ⟨S4096x64, .bf16⟩
  | .local _ .vmem, ⟨28, _⟩ => ⟨S1024x64, .bf16⟩
  | .local _ .vmem, ⟨29, _⟩ => ⟨S1x256x128, .bf16⟩
  | .local _ .vmem, ⟨30, _⟩ => ⟨S1x256x128, .bf16⟩
  | .local _ .vmem, ⟨31, _⟩ => ⟨S1x256x128, .bf16⟩
  | .local _ .vmem, ⟨32, _⟩ => ⟨S1x256x128, .bf16⟩
  | .local _ .vmem, ⟨33, _⟩ => ⟨S256x128, .bf16⟩
  | .local _ .vmem, ⟨34, _⟩ => ⟨S256x128, .bf16⟩
  | .local _ .vmem, ⟨35, _⟩ => ⟨S1x1x256x64, .bf16⟩
  | .local _ .vmem, ⟨36, _⟩ => ⟨S1x1x256x64, .bf16⟩
  | .local _ .vmem, ⟨37, _⟩ => ⟨S256x64, .bf16⟩
  | .local _ .vmem, ⟨38, _⟩ => ⟨S256x64, .bf16⟩
  | .local _ .vmem, ⟨39, _⟩ => ⟨S256x128, .bf16⟩
  | .local _ .vmem, ⟨40, _⟩ => ⟨S256x128, .bf16⟩
  | .local _ .vmem, ⟨41, _⟩ => ⟨S1024x4096, .bf16⟩
  | .local _ .vmem, ⟨42, _⟩ => ⟨S4096x512, .bf16⟩
  | .local _ .vmem, ⟨43, _⟩ => ⟨S4096x512, .bf16⟩
  | .local _ .vmem, ⟨44, _⟩ => ⟨S1024x512, .f32⟩
  | .local _ .vmem, ⟨45, _⟩ => ⟨S1024x512, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 2 → Bool
  | ⟨0, _⟩ => true
  | ⟨1, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 2 49 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_scratch0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg1_1 : Ref sig .tc := ⟨.vmem, 18, rfl⟩
abbrev cc4_stg2_0 : Ref sig .tc := ⟨.vmem, 19, rfl⟩
abbrev cc4_stg2_1 : Ref sig .tc := ⟨.vmem, 20, rfl⟩
abbrev cc5_stg0_0 : Ref sig .tc := ⟨.vmem, 21, rfl⟩
abbrev cc5_stg1_0 : Ref sig .tc := ⟨.vmem, 22, rfl⟩
abbrev cc5_stg1_1 : Ref sig .tc := ⟨.vmem, 23, rfl⟩
abbrev cc5_stg2_0 : Ref sig .tc := ⟨.vmem, 24, rfl⟩
abbrev cc5_stg2_1 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg2_0 : Ref sig .tc := ⟨.vmem, 28, rfl⟩
abbrev cc7_stg0_0 : Ref sig .tc := ⟨.vmem, 29, rfl⟩
abbrev cc7_stg0_1 : Ref sig .tc := ⟨.vmem, 30, rfl⟩
abbrev cc7_stg1_0 : Ref sig .tc := ⟨.vmem, 31, rfl⟩
abbrev cc7_stg1_1 : Ref sig .tc := ⟨.vmem, 32, rfl⟩
abbrev cc7_stg2_0 : Ref sig .tc := ⟨.vmem, 33, rfl⟩
abbrev cc7_stg2_1 : Ref sig .tc := ⟨.vmem, 34, rfl⟩
abbrev cc7_stg3_0 : Ref sig .tc := ⟨.vmem, 35, rfl⟩
abbrev cc7_stg3_1 : Ref sig .tc := ⟨.vmem, 36, rfl⟩
abbrev cc7_stg4_0 : Ref sig .tc := ⟨.vmem, 37, rfl⟩
abbrev cc7_stg4_1 : Ref sig .tc := ⟨.vmem, 38, rfl⟩
abbrev cc7_stg5_0 : Ref sig .tc := ⟨.vmem, 39, rfl⟩
abbrev cc7_stg5_1 : Ref sig .tc := ⟨.vmem, 40, rfl⟩
abbrev cc8_stg0_0 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg2_1 : Ref sig .tc := ⟨.vmem, 45, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc3_sem0_0 : DmaSem sig := 13
abbrev cc3_sem1_0 : DmaSem sig := 14
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28
abbrev cc6_sem0_0 : DmaSem sig := 29
abbrev cc6_sem1_0 : DmaSem sig := 30
abbrev cc6_sem2_0 : DmaSem sig := 31
abbrev cc7_sem0_0 : DmaSem sig := 32
abbrev cc7_sem0_1 : DmaSem sig := 33
abbrev cc7_sem1_0 : DmaSem sig := 34
abbrev cc7_sem1_1 : DmaSem sig := 35
abbrev cc7_sem2_0 : DmaSem sig := 36
abbrev cc7_sem2_1 : DmaSem sig := 37
abbrev cc7_sem3_0 : DmaSem sig := 38
abbrev cc7_sem3_1 : DmaSem sig := 39
abbrev cc7_sem4_0 : DmaSem sig := 40
abbrev cc7_sem4_1 : DmaSem sig := 41
abbrev cc7_sem5_0 : DmaSem sig := 42
abbrev cc7_sem5_1 : DmaSem sig := 43
abbrev cc8_sem0_0 : DmaSem sig := 44
abbrev cc8_sem1_0 : DmaSem sig := 45
abbrev cc8_sem1_1 : DmaSem sig := 46
abbrev cc8_sem2_0 : DmaSem sig := 47
abbrev cc8_sem2_1 : DmaSem sig := 48
abbrev barrier0 : Sem sig := 1

abbrev nD : Nat := 32
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

def k3_dev1 (d3 : Dev nD) : Nat :=
  let c0_i32_23 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_22 : BitVec 32 := 16#32
  let v36 : BitVec 32 := Scalar.muli v5 c16_i32_22
  let v37 : BitVec 32 := Scalar.addi c0_i32_23 v36
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_7 : BitVec 32 := 4#32
  let v12 : BitVec 32 := Scalar.addi v8 c4_i32_7
  let c1_i32_8 : BitVec 32 := 1#32
  let v13 : BitVec 32 := Scalar.subi v12 c1_i32_8
  let c4_i32_9 : BitVec 32 := 4#32
  let c0_i32 : BitVec 32 := 0#32
  let v14 : BitVec 1 := Scalar.cmpi .eq c4_i32_9 c0_i32
  let c1_i32_10 : BitVec 32 := 1#32
  let v15 : BitVec 32 := Scalar.select v14 c1_i32_10 c4_i32_9
  let v16 : BitVec 32 := Scalar.remsi v13 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c4_i32_24 : BitVec 32 := 4#32
  let v38 : BitVec 32 := Scalar.muli v23 c4_i32_24
  let v39 : BitVec 32 := Scalar.addi v37 v38
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_25 : BitVec 32 := 1#32
  let v40 : BitVec 32 := Scalar.muli v11 c1_i32_25
  let v41 : BitVec 32 := Scalar.addi v39 v40
  v41.toNat
def k3_dev2 (d3 : Dev nD) : Nat :=
  let c0_i32_28 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_27 : BitVec 32 := 16#32
  let v42 : BitVec 32 := Scalar.muli v5 c16_i32_27
  let v43 : BitVec 32 := Scalar.addi c0_i32_28 v42
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_29 : BitVec 32 := 4#32
  let v44 : BitVec 32 := Scalar.muli v34 c4_i32_29
  let v45 : BitVec 32 := Scalar.addi v43 v44
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_30 : BitVec 32 := 1#32
  let v46 : BitVec 32 := Scalar.muli v11 c1_i32_30
  let v47 : BitVec 32 := Scalar.addi v45 v46
  v47.toNat
def k3_off1 (d3 : Dev nD) (c0_i32_33 : BitVec 32) : Fin 3 → Nat :=
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_32 : BitVec 32 := 4#32
  let v48 : BitVec 32 := Scalar.addi v8 c4_i32_32
  let v49 : BitVec 32 := Scalar.subi v48 c0_i32_33
  let c4_i32_34 : BitVec 32 := 4#32
  let c0_i32_35 : BitVec 32 := 0#32
  let v50 : BitVec 1 := Scalar.cmpi .eq c4_i32_34 c0_i32_35
  let c1_i32_36 : BitVec 32 := 1#32
  let v51 : BitVec 32 := Scalar.select v50 c1_i32_36 c4_i32_34
  let v52 : BitVec 32 := Scalar.remsi v49 v51
  let c0_i32_38 : BitVec 32 := 0#32
  let v54 : BitVec 1 := Scalar.cmpi .slt v52 c0_i32_38
  let c0_i32_39 : BitVec 32 := 0#32
  let v55 : BitVec 1 := Scalar.cmpi .slt v51 c0_i32_39
  let v56 : BitVec 1 := Scalar.xori v54 v55
  let c0_i32_37 : BitVec 32 := 0#32
  let v53 : BitVec 1 := Scalar.cmpi .ne v52 c0_i32_37
  let v57 : BitVec 1 := Scalar.andi v56 v53
  let v58 : BitVec 32 := Scalar.addi v52 v51
  let v59 : BitVec 32 := Scalar.select v57 v58 v52
  let c0_i32_58 : BitVec 32 := 0#32
  let c0_i32_59 : BitVec 32 := 0#32
  ![v59.toNat, 0, 0]
def k3_dev3 (d3 : Dev nD) : Nat :=
  let c0_i32_53 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_52 : BitVec 32 := 16#32
  let v73 : BitVec 32 := Scalar.muli v5 c16_i32_52
  let v74 : BitVec 32 := Scalar.addi c0_i32_53 v73
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_54 : BitVec 32 := 4#32
  let v75 : BitVec 32 := Scalar.muli v34 c4_i32_54
  let v76 : BitVec 32 := Scalar.addi v74 v75
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_55 : BitVec 32 := 1#32
  let v77 : BitVec 32 := Scalar.muli v11 c1_i32_55
  let v78 : BitVec 32 := Scalar.addi v76 v77
  v78.toNat
def k3_off2 (d3 : Dev nD) (c0_i32_41 : BitVec 32) : Fin 3 → Nat :=
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_40 : BitVec 32 := 4#32
  let v60 : BitVec 32 := Scalar.addi v8 c4_i32_40
  let v61 : BitVec 32 := Scalar.subi v60 c0_i32_41
  let c1_i32_42 : BitVec 32 := 1#32
  let v62 : BitVec 32 := Scalar.subi v61 c1_i32_42
  let c4_i32_43 : BitVec 32 := 4#32
  let c0_i32_44 : BitVec 32 := 0#32
  let v63 : BitVec 1 := Scalar.cmpi .eq c4_i32_43 c0_i32_44
  let c1_i32_45 : BitVec 32 := 1#32
  let v64 : BitVec 32 := Scalar.select v63 c1_i32_45 c4_i32_43
  let v65 : BitVec 32 := Scalar.remsi v62 v64
  let c0_i32_47 : BitVec 32 := 0#32
  let v67 : BitVec 1 := Scalar.cmpi .slt v65 c0_i32_47
  let c0_i32_48 : BitVec 32 := 0#32
  let v68 : BitVec 1 := Scalar.cmpi .slt v64 c0_i32_48
  let v69 : BitVec 1 := Scalar.xori v67 v68
  let c0_i32_46 : BitVec 32 := 0#32
  let v66 : BitVec 1 := Scalar.cmpi .ne v65 c0_i32_46
  let v70 : BitVec 1 := Scalar.andi v69 v66
  let v71 : BitVec 32 := Scalar.addi v65 v64
  let v72 : BitVec 32 := Scalar.select v70 v71 v65
  let v105 : Index := Scalar.indexCast v72
  let c0_79 : Index := 0#32
  let c0_80 : Index := 0#32
  ![v105.toNat, 0, 0]
def k3_dev4 (d3 : Dev nD) : Nat :=
  let c0_i32_88 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_87 : BitVec 32 := 16#32
  let v115 : BitVec 32 := Scalar.muli v5 c16_i32_87
  let v116 : BitVec 32 := Scalar.addi c0_i32_88 v115
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_7 : BitVec 32 := 4#32
  let v12 : BitVec 32 := Scalar.addi v8 c4_i32_7
  let c1_i32_8 : BitVec 32 := 1#32
  let v13 : BitVec 32 := Scalar.subi v12 c1_i32_8
  let c4_i32_9 : BitVec 32 := 4#32
  let c0_i32 : BitVec 32 := 0#32
  let v14 : BitVec 1 := Scalar.cmpi .eq c4_i32_9 c0_i32
  let c1_i32_10 : BitVec 32 := 1#32
  let v15 : BitVec 32 := Scalar.select v14 c1_i32_10 c4_i32_9
  let v16 : BitVec 32 := Scalar.remsi v13 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c4_i32_89 : BitVec 32 := 4#32
  let v117 : BitVec 32 := Scalar.muli v23 c4_i32_89
  let v118 : BitVec 32 := Scalar.addi v116 v117
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_90 : BitVec 32 := 1#32
  let v119 : BitVec 32 := Scalar.muli v11 c1_i32_90
  let v120 : BitVec 32 := Scalar.addi v118 v119
  v120.toNat
def k3_dev5 (d3 : Dev nD) : Nat :=
  let c0_i32_112 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_111 : BitVec 32 := 16#32
  let v146 : BitVec 32 := Scalar.muli v5 c16_i32_111
  let v147 : BitVec 32 := Scalar.addi c0_i32_112 v146
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_113 : BitVec 32 := 4#32
  let v148 : BitVec 32 := Scalar.muli v34 c4_i32_113
  let v149 : BitVec 32 := Scalar.addi v147 v148
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_114 : BitVec 32 := 1#32
  let v150 : BitVec 32 := Scalar.muli v11 c1_i32_114
  let v151 : BitVec 32 := Scalar.addi v149 v150
  v151.toNat
def k3_dev6 (d3 : Dev nD) : Nat :=
  let c0_i32_146 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_145 : BitVec 32 := 16#32
  let v188 : BitVec 32 := Scalar.muli v5 c16_i32_145
  let v189 : BitVec 32 := Scalar.addi c0_i32_146 v188
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_7 : BitVec 32 := 4#32
  let v12 : BitVec 32 := Scalar.addi v8 c4_i32_7
  let c1_i32_8 : BitVec 32 := 1#32
  let v13 : BitVec 32 := Scalar.subi v12 c1_i32_8
  let c4_i32_9 : BitVec 32 := 4#32
  let c0_i32 : BitVec 32 := 0#32
  let v14 : BitVec 1 := Scalar.cmpi .eq c4_i32_9 c0_i32
  let c1_i32_10 : BitVec 32 := 1#32
  let v15 : BitVec 32 := Scalar.select v14 c1_i32_10 c4_i32_9
  let v16 : BitVec 32 := Scalar.remsi v13 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c4_i32_147 : BitVec 32 := 4#32
  let v190 : BitVec 32 := Scalar.muli v23 c4_i32_147
  let v191 : BitVec 32 := Scalar.addi v189 v190
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_148 : BitVec 32 := 1#32
  let v192 : BitVec 32 := Scalar.muli v11 c1_i32_148
  let v193 : BitVec 32 := Scalar.addi v191 v192
  v193.toNat
def k3_dev7 (d3 : Dev nD) : Nat :=
  let c0_i32_172 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_171 : BitVec 32 := 16#32
  let v219 : BitVec 32 := Scalar.muli v5 c16_i32_171
  let v220 : BitVec 32 := Scalar.addi c0_i32_172 v219
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_173 : BitVec 32 := 4#32
  let v221 : BitVec 32 := Scalar.muli v34 c4_i32_173
  let v222 : BitVec 32 := Scalar.addi v220 v221
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_174 : BitVec 32 := 1#32
  let v223 : BitVec 32 := Scalar.muli v11 c1_i32_174
  let v224 : BitVec 32 := Scalar.addi v222 v223
  v224.toNat
def k3_dev8 (d3 : Dev nD) : Nat :=
  let c0_i32_207 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_206 : BitVec 32 := 16#32
  let v261 : BitVec 32 := Scalar.muli v5 c16_i32_206
  let v262 : BitVec 32 := Scalar.addi c0_i32_207 v261
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_7 : BitVec 32 := 4#32
  let v12 : BitVec 32 := Scalar.addi v8 c4_i32_7
  let c1_i32_8 : BitVec 32 := 1#32
  let v13 : BitVec 32 := Scalar.subi v12 c1_i32_8
  let c4_i32_9 : BitVec 32 := 4#32
  let c0_i32 : BitVec 32 := 0#32
  let v14 : BitVec 1 := Scalar.cmpi .eq c4_i32_9 c0_i32
  let c1_i32_10 : BitVec 32 := 1#32
  let v15 : BitVec 32 := Scalar.select v14 c1_i32_10 c4_i32_9
  let v16 : BitVec 32 := Scalar.remsi v13 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c4_i32_208 : BitVec 32 := 4#32
  let v263 : BitVec 32 := Scalar.muli v23 c4_i32_208
  let v264 : BitVec 32 := Scalar.addi v262 v263
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_209 : BitVec 32 := 1#32
  let v265 : BitVec 32 := Scalar.muli v11 c1_i32_209
  let v266 : BitVec 32 := Scalar.addi v264 v265
  v266.toNat
def k3_off3 (d3 : Dev nD) (c0_i32_212 : BitVec 32) : Fin 3 → Nat :=
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_210 : BitVec 32 := 1#32
  let v267 : BitVec 32 := Scalar.addi v8 c1_i32_210
  let c4_i32_211 : BitVec 32 := 4#32
  let v268 : BitVec 32 := Scalar.addi v267 c4_i32_211
  let v269 : BitVec 32 := Scalar.subi v268 c0_i32_212
  let c4_i32_213 : BitVec 32 := 4#32
  let c0_i32_214 : BitVec 32 := 0#32
  let v270 : BitVec 1 := Scalar.cmpi .eq c4_i32_213 c0_i32_214
  let c1_i32_215 : BitVec 32 := 1#32
  let v271 : BitVec 32 := Scalar.select v270 c1_i32_215 c4_i32_213
  let v272 : BitVec 32 := Scalar.remsi v269 v271
  let c0_i32_217 : BitVec 32 := 0#32
  let v274 : BitVec 1 := Scalar.cmpi .slt v272 c0_i32_217
  let c0_i32_218 : BitVec 32 := 0#32
  let v275 : BitVec 1 := Scalar.cmpi .slt v271 c0_i32_218
  let v276 : BitVec 1 := Scalar.xori v274 v275
  let c0_i32_216 : BitVec 32 := 0#32
  let v273 : BitVec 1 := Scalar.cmpi .ne v272 c0_i32_216
  let v277 : BitVec 1 := Scalar.andi v276 v273
  let v278 : BitVec 32 := Scalar.addi v272 v271
  let v279 : BitVec 32 := Scalar.select v277 v278 v272
  let c0_i32_227 : BitVec 32 := 0#32
  let c0_i32_228 : BitVec 32 := 0#32
  ![v279.toNat, 0, 0]
def k3_dev9 (d3 : Dev nD) : Nat :=
  let c0_i32_224 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_223 : BitVec 32 := 16#32
  let v280 : BitVec 32 := Scalar.muli v5 c16_i32_223
  let v281 : BitVec 32 := Scalar.addi c0_i32_224 v280
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_225 : BitVec 32 := 4#32
  let v282 : BitVec 32 := Scalar.muli v34 c4_i32_225
  let v283 : BitVec 32 := Scalar.addi v281 v282
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_226 : BitVec 32 := 1#32
  let v284 : BitVec 32 := Scalar.muli v11 c1_i32_226
  let v285 : BitVec 32 := Scalar.addi v283 v284
  v285.toNat
def k3_dev10 (d3 : Dev nD) : Nat :=
  let c0_i32_250 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_249 : BitVec 32 := 16#32
  let v312 : BitVec 32 := Scalar.muli v5 c16_i32_249
  let v313 : BitVec 32 := Scalar.addi c0_i32_250 v312
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c4_i32_7 : BitVec 32 := 4#32
  let v12 : BitVec 32 := Scalar.addi v8 c4_i32_7
  let c1_i32_8 : BitVec 32 := 1#32
  let v13 : BitVec 32 := Scalar.subi v12 c1_i32_8
  let c4_i32_9 : BitVec 32 := 4#32
  let c0_i32 : BitVec 32 := 0#32
  let v14 : BitVec 1 := Scalar.cmpi .eq c4_i32_9 c0_i32
  let c1_i32_10 : BitVec 32 := 1#32
  let v15 : BitVec 32 := Scalar.select v14 c1_i32_10 c4_i32_9
  let v16 : BitVec 32 := Scalar.remsi v13 v15
  let c0_i32_12 : BitVec 32 := 0#32
  let v18 : BitVec 1 := Scalar.cmpi .slt v16 c0_i32_12
  let c0_i32_13 : BitVec 32 := 0#32
  let v19 : BitVec 1 := Scalar.cmpi .slt v15 c0_i32_13
  let v20 : BitVec 1 := Scalar.xori v18 v19
  let c0_i32_11 : BitVec 32 := 0#32
  let v17 : BitVec 1 := Scalar.cmpi .ne v16 c0_i32_11
  let v21 : BitVec 1 := Scalar.andi v20 v17
  let v22 : BitVec 32 := Scalar.addi v16 v15
  let v23 : BitVec 32 := Scalar.select v21 v22 v16
  let c4_i32_251 : BitVec 32 := 4#32
  let v314 : BitVec 32 := Scalar.muli v23 c4_i32_251
  let v315 : BitVec 32 := Scalar.addi v313 v314
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_252 : BitVec 32 := 1#32
  let v316 : BitVec 32 := Scalar.muli v11 c1_i32_252
  let v317 : BitVec 32 := Scalar.addi v315 v316
  v317.toNat
def k3_dev11 (d3 : Dev nD) : Nat :=
  let c0_i32_267 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_266 : BitVec 32 := 16#32
  let v331 : BitVec 32 := Scalar.muli v5 c16_i32_266
  let v332 : BitVec 32 := Scalar.addi c0_i32_267 v331
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_268 : BitVec 32 := 4#32
  let v333 : BitVec 32 := Scalar.muli v34 c4_i32_268
  let v334 : BitVec 32 := Scalar.addi v332 v333
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_269 : BitVec 32 := 1#32
  let v335 : BitVec 32 := Scalar.muli v11 c1_i32_269
  let v336 : BitVec 32 := Scalar.addi v334 v335
  v336.toNat
def k3_dev12 (d3 : Dev nD) : Nat :=
  let c0_i32_305 : BitVec 32 := 0#32
  let v3 : BitVec 32 := Dev.word d3
  let c16_i32 : BitVec 32 := 16#32
  let v4 : BitVec 32 := Scalar.divsi v3 c16_i32
  let c2_i32 : BitVec 32 := 2#32
  let v5 : BitVec 32 := Scalar.remsi v4 c2_i32
  let c16_i32_304 : BitVec 32 := 16#32
  let v376 : BitVec 32 := Scalar.muli v5 c16_i32_304
  let v377 : BitVec 32 := Scalar.addi c0_i32_305 v376
  let v6 : BitVec 32 := Dev.word d3
  let c4_i32_5 : BitVec 32 := 4#32
  let v7 : BitVec 32 := Scalar.divsi v6 c4_i32_5
  let c4_i32 : BitVec 32 := 4#32
  let v8 : BitVec 32 := Scalar.remsi v7 c4_i32
  let c1_i32_14 : BitVec 32 := 1#32
  let v24 : BitVec 32 := Scalar.addi v8 c1_i32_14
  let c4_i32_15 : BitVec 32 := 4#32
  let c0_i32_16 : BitVec 32 := 0#32
  let v25 : BitVec 1 := Scalar.cmpi .eq c4_i32_15 c0_i32_16
  let c1_i32_17 : BitVec 32 := 1#32
  let v26 : BitVec 32 := Scalar.select v25 c1_i32_17 c4_i32_15
  let v27 : BitVec 32 := Scalar.remsi v24 v26
  let c0_i32_19 : BitVec 32 := 0#32
  let v29 : BitVec 1 := Scalar.cmpi .slt v27 c0_i32_19
  let c0_i32_20 : BitVec 32 := 0#32
  let v30 : BitVec 1 := Scalar.cmpi .slt v26 c0_i32_20
  let v31 : BitVec 1 := Scalar.xori v29 v30
  let c0_i32_18 : BitVec 32 := 0#32
  let v28 : BitVec 1 := Scalar.cmpi .ne v27 c0_i32_18
  let v32 : BitVec 1 := Scalar.andi v31 v28
  let v33 : BitVec 32 := Scalar.addi v27 v26
  let v34 : BitVec 32 := Scalar.select v32 v33 v27
  let c4_i32_306 : BitVec 32 := 4#32
  let v378 : BitVec 32 := Scalar.muli v34 c4_i32_306
  let v379 : BitVec 32 := Scalar.addi v377 v378
  let v9 : BitVec 32 := Dev.word d3
  let c1_i32 : BitVec 32 := 1#32
  let v10 : BitVec 32 := Scalar.divsi v9 c1_i32
  let c4_i32_6 : BitVec 32 := 4#32
  let v11 : BitVec 32 := Scalar.remsi v10 c4_i32_6
  let c1_i32_307 : BitVec 32 := 1#32
  let v380 : BitVec 32 := Scalar.muli v11 c1_i32_307
  let v381 : BitVec 32 := Scalar.addi v379 v380
  v381.toNat
abbrev stage3_0 : Fin 1 → Memref sig .tc .vmem S4x512x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4x512x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 1 → Memref sig .tc .vmem S1024x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S4096x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S1024x64 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev grid7 : Pipeline.Grid := ⟨2, ![4, 32], ![false, false]⟩

def cc7_transform_0 (i : grid7.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc7_transform_1 (i : grid7.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, v27.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1x256x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x256x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S256x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1x1x256x64 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S256x64 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S256x128 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage8_0 : Fin 1 → Memref sig .tc .vmem S1024x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]
-- ==== ReferenceIdeal.lean ====
abbrev S4x256x4096 : Shape := ⟨3, ![4, 256, 4096]⟩
abbrev S4096x512 : Shape := ⟨2, ![4096, 512]⟩
abbrev S512x4096 : Shape := ⟨2, ![512, 4096]⟩
abbrev S4096x4096 : Shape := ⟨2, ![4096, 4096]⟩
abbrev S4096x2048 : Shape := ⟨2, ![4096, 2048]⟩
abbrev S4096x64 : Shape := ⟨2, ![4096, 64]⟩
abbrev S4x256x512 : Shape := ⟨3, ![4, 256, 512]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4096x512, .bf16⟩
  | .hbm, ⟨2, _⟩ => ⟨S512x4096, .bf16⟩
  | .hbm, ⟨3, _⟩ => ⟨S512x4096, .bf16⟩
  | .hbm, ⟨4, _⟩ => ⟨S4096x4096, .bf16⟩
  | .hbm, ⟨5, _⟩ => ⟨S4096x2048, .bf16⟩
  | .hbm, ⟨6, _⟩ => ⟨S4096x64, .bf16⟩
  | .hbm, ⟨7, _⟩ => ⟨S4096x4096, .bf16⟩
  | .hbm, ⟨8, _⟩ => ⟨S4x256x4096, .f32⟩
  | .hbm, ⟨9, _⟩ => ⟨S4096x512, .f32⟩
  | .hbm, ⟨10, _⟩ => ⟨S512x4096, .f32⟩
  | .hbm, ⟨11, _⟩ => ⟨S512x4096, .f32⟩
  | .hbm, ⟨12, _⟩ => ⟨S4096x4096, .f32⟩
  | .hbm, ⟨13, _⟩ => ⟨S4096x2048, .f32⟩
  | .hbm, ⟨14, _⟩ => ⟨S4096x64, .f32⟩
  | .hbm, ⟨15, _⟩ => ⟨S4096x4096, .f32⟩
  | .hbm, ⟨16, _⟩ => ⟨S4x256x512, .f32⟩
  | .hbm, ⟨17, _⟩ => ⟨S4x256x4096, .f32⟩
  | .hbm, ⟨18, _⟩ => ⟨S4x256x32x128, .f32⟩
  | .hbm, ⟨19, _⟩ => ⟨S4x256x4096, .f32⟩
  | .hbm, ⟨20, _⟩ => ⟨S4x256x32x128, .f32⟩
  | .hbm, ⟨21, _⟩ => ⟨S4x256x4096, .f32⟩
  | .hbm, ⟨22, _⟩ => ⟨S4x256x32x128, .f32⟩
  | .hbm, ⟨23, _⟩ => ⟨S4x256x2048, .f32⟩
  | .hbm, ⟨24, _⟩ => ⟨S4x256x32x64, .f32⟩
  | .hbm, ⟨25, _⟩ => ⟨S4x256x64, .f32⟩
  | .hbm, ⟨26, _⟩ => ⟨S4x256x1x64, .f32⟩
  | .hbm, ⟨27, _⟩ => ⟨S4x32x256x256, .f32⟩
  | .hbm, ⟨28, _⟩ => ⟨S4x256x32x64, .f32⟩
  | .hbm, ⟨29, _⟩ => ⟨S4x32x256x256, .f32⟩
  | .hbm, ⟨30, _⟩ => ⟨S4x32x256x256, .f32⟩
  | .hbm, ⟨31, _⟩ => ⟨S_, .f32⟩
  | .hbm, ⟨32, _⟩ => ⟨S4x32x256x256, .f32⟩
  | .hbm, ⟨33, _⟩ => ⟨S4x32x256x256, .f32⟩
  | .hbm, ⟨34, _⟩ => ⟨S_, .f32⟩
  | .hbm, ⟨35, _⟩ => ⟨S4x32x256, .f32⟩
  | .hbm, ⟨36, _⟩ => ⟨S4x32x256x1, .f32⟩
  | .hbm, ⟨37, _⟩ => ⟨S4x32x256x256, .f32⟩
  | .hbm, ⟨38, _⟩ => ⟨S4x32x256x256, .f32⟩
  | .hbm, ⟨39, _⟩ => ⟨S4x32x256x256, .f32⟩
  | .hbm, ⟨40, _⟩ => ⟨S_, .f32⟩
  | .hbm, ⟨41, _⟩ => ⟨S4x32x256, .f32⟩
  | .hbm, ⟨42, _⟩ => ⟨S4x32x256x1, .f32⟩
  | .hbm, ⟨43, _⟩ => ⟨S4x32x256x256, .f32⟩
  | .hbm, ⟨44, _⟩ => ⟨S4x32x256x256, .f32⟩
  | .hbm, ⟨45, _⟩ => ⟨S4x32x128x256, .f32⟩
  | .hbm, ⟨46, _⟩ => ⟨S4x256x32x128, .f32⟩
  | .hbm, ⟨47, _⟩ => ⟨S4x256x4096, .f32⟩
  | .hbm, ⟨48, _⟩ => ⟨S4x256x4096, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.KernelIdeal.Chunks.lean ====
/-
  The ring's arithmetic and its buffers. A device's number is 16 x + 4 y + z; the ring runs along y. `nxt c` and `prv c`
  are its neighbours; the program's device words and slice offsets are these, decided over the 32 devices. The result's
  staging buffer is four row blocks ("chunks", by the first coordinate), the scratch two ("slots"); a slice of one of them,
  squeezed or not, is a chunk, and a copy between two of them moves the values index by index.
-/
module

public import proofs.«01_k».proof.Defs
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.ValueKit.Geometry

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring along y -/

/-- The position along the ring. -/
def yOf (c : Dev nD) : ℕ := c.val / 4 % 4

set_option backward.proofsInPublic true in
/-- The right neighbour, to which the copies go, -/
def nxt (c : Dev nD) : Dev nD := ⟨c.val / 16 % 2 * 16 + (yOf c + 1) % 4 * 4 + c.val % 4, by unfold yOf; show _ < 32; omega⟩
set_option backward.proofsInPublic true in
/-- and the left one, from which they come. -/
def prv (c : Dev nD) : Dev nD := ⟨c.val / 16 % 2 * 16 + (yOf c + 3) % 4 * 4 + c.val % 4, by unfold yOf; show _ < 32; omega⟩

theorem prv_nxt (c : Dev nD) : prv (nxt c) = c := by revert c; decide +kernel
theorem nxt_prv (c : Dev nD) : nxt (prv c) = c := by revert c; decide +kernel
theorem prv4 (c : Dev nD) : prv (prv (prv (prv c))) = c := by revert c; decide +kernel
theorem yOf_lt (c : Dev nD) : yOf c < 4 := Nat.mod_lt _ (by decide)
theorem yOf_nxt (c : Dev nD) : yOf (nxt c) = (yOf c + 1) % 4 := by revert c; decide +kernel
theorem yOf_prv (c : Dev nD) : yOf (prv c) = (yOf c + 3) % 4 := by revert c; decide +kernel
theorem nxt_ne_prv (c : Dev nD) : nxt c ≠ prv c := by revert c; decide +kernel
theorem nxt_injective : Function.Injective (nxt : Dev nD → Dev nD) := fun a b h => by
  simpa [prv_nxt] using congrArg prv h
theorem prv_injective : Function.Injective (prv : Dev nD → Dev nD) := fun a b h => by
  simpa [nxt_prv] using congrArg nxt h

/-- The ring as a permutation of the devices, -/
def ring : Dev nD ≃ Dev nD := ⟨nxt, prv, prv_nxt, nxt_prv⟩
/-- and its inverse. -/
def gnir : Dev nD ≃ Dev nD := ⟨prv, nxt, nxt_prv, prv_nxt⟩

/-- The chunk that `c` sends at step `g`: its own at the start, then the one that came in last. -/
def srcK (c : Dev nD) (g : ℕ) : ℕ := (yOf c + 8 - g) % 4

theorem srcK_lt (c : Dev nD) (g : ℕ) : srcK c g < 4 := Nat.mod_lt _ (by decide)
/-- What the left neighbour sends at step `g` is what `c` itself sends at step `g + 1`. -/
theorem srcK_prv (c : Dev nD) (g : ℕ) (hg : g < 6) : srcK (prv c) g = srcK c (g + 1) := by
  unfold srcK; rw [yOf_prv]; have := yOf_lt c; omega

/-! ## The program's device words and offsets -/

theorem dev1_eq (c : Dev nD) : (⟨k3_dev1 c, k3_dev1_lt c⟩ : Dev nD) = prv c := by revert c; decide +kernel
theorem dev2_eq (c : Dev nD) : (⟨k3_dev2 c, k3_dev2_lt c⟩ : Dev nD) = nxt c := by revert c; decide +kernel
theorem dev3_eq (c : Dev nD) : (⟨k3_dev3 c, k3_dev3_lt c⟩ : Dev nD) = nxt c := by revert c; decide +kernel
theorem dev4_eq (c : Dev nD) : (⟨k3_dev4 c, k3_dev4_lt c⟩ : Dev nD) = prv c := by revert c; decide +kernel
theorem dev5_eq (c : Dev nD) : (⟨k3_dev5 c, k3_dev5_lt c⟩ : Dev nD) = nxt c := by revert c; decide +kernel
theorem dev6_eq (c : Dev nD) : (⟨k3_dev6 c, k3_dev6_lt c⟩ : Dev nD) = prv c := by revert c; decide +kernel
theorem dev7_eq (c : Dev nD) : (⟨k3_dev7 c, k3_dev7_lt c⟩ : Dev nD) = nxt c := by revert c; decide +kernel
theorem dev8_eq (c : Dev nD) : (⟨k3_dev8 c, k3_dev8_lt c⟩ : Dev nD) = prv c := by revert c; decide +kernel
theorem dev9_eq (c : Dev nD) : (⟨k3_dev9 c, k3_dev9_lt c⟩ : Dev nD) = nxt c := by revert c; decide +kernel
theorem dev10_eq (c : Dev nD) : (⟨k3_dev10 c, k3_dev10_lt c⟩ : Dev nD) = prv c := by revert c; decide +kernel
theorem dev11_eq (c : Dev nD) : (⟨k3_dev11 c, k3_dev11_lt c⟩ : Dev nD) = nxt c := by revert c; decide +kernel
theorem dev12_eq (c : Dev nD) : (⟨k3_dev12 c, k3_dev12_lt c⟩ : Dev nD) = nxt c := by revert c; decide +kernel

theorem off1_0 (c : Dev nD) : k3_off1 c 0#32 = ![srcK c 0, 0, 0] := by revert c; decide +kernel
theorem off1_1 (c : Dev nD) : k3_off1 c 1#32 = ![srcK c 1, 0, 0] := by revert c; decide +kernel
theorem off1_2 (c : Dev nD) : k3_off1 c 2#32 = ![srcK c 2, 0, 0] := by revert c; decide +kernel
theorem off2_0 (c : Dev nD) : k3_off2 c 0#32 = ![srcK c 1, 0, 0] := by revert c; decide +kernel
theorem off2_1 (c : Dev nD) : k3_off2 c 1#32 = ![srcK c 2, 0, 0] := by revert c; decide +kernel
theorem off2_2 (c : Dev nD) : k3_off2 c 2#32 = ![srcK c 3, 0, 0] := by revert c; decide +kernel
theorem off3_0 (c : Dev nD) : k3_off3 c 0#32 = ![srcK c 3, 0, 0] := by revert c; decide +kernel
theorem off3_1 (c : Dev nD) : k3_off3 c 1#32 = ![srcK c 4, 0, 0] := by revert c; decide +kernel
theorem off3_2 (c : Dev nD) : k3_off3 c 2#32 = ![srcK c 5, 0, 0] := by revert c; decide +kernel

/-! ## Chunks of a buffer of row blocks -/

/-- Row block `k` of an array of `n` blocks of 512 by 4096. -/
def blockSet {n : ℕ} (k : ℕ) : Finset (⟨3, ![n, 512, 4096]⟩ : Shape).Idx := Finset.univ.filter fun i => (i 0).val = k

theorem mem_blockSet {n k : ℕ} {i : (⟨3, ![n, 512, 4096]⟩ : Shape).Idx} : i ∈ blockSet k ↔ (i 0).val = k := by
  unfold blockSet; rw [Finset.mem_filter]; exact ⟨fun h => h.2, fun h => ⟨Finset.mem_univ _, h⟩⟩

theorem blockSet_disjoint {n k l : ℕ} (h : k ≠ l) : Disjoint (blockSet (n := n) k) (blockSet l) := by
  rw [Finset.disjoint_left]; intro i hi hj; exact h (mem_blockSet.mp hi ▸ mem_blockSet.mp hj)

/-- Index `x` of one block, placed in block `k`. -/
def inBlock (n k : ℕ) (hk : k < n) (x : S1x512x4096.Idx) : (⟨3, ![n, 512, 4096]⟩ : Shape).Idx :=
  fun | 0 => ⟨k, hk⟩ | 1 => x 1 | 2 => x 2

section Rect

variable {n k : ℕ} (hk : k < n) (off : Fin 3 → ℕ) (ho : off = ![k, 0, 0])
  (inb : ∀ a, off a + S1x512x4096.size a ≤ (⟨3, ![n, 512, 4096]⟩ : Shape).size a)

include ho in
/-- A block's rectangle places an index in the block. -/
theorem rect_emb (x : S1x512x4096.Idx) :
    (Rect.unit (s := ⟨3, ![n, 512, 4096]⟩) off S1x512x4096.size inb).emb x = inBlock n k hk x := by
  subst ho
  funext a
  apply Fin.ext
  rw [ValueKit.rect_emb_unit_val]
  have h0 : (x 0).val = 0 := Nat.lt_one_iff.mp (x 0).isLt
  fin_cases a
  · show k + (x 0).val = k; omega
  · show 0 + (x 1).val = (x 1).val; omega
  · show 0 + (x 2).val = (x 2).val; omega

include ho hk in
theorem rect_set : (Rect.unit (s := ⟨3, ![n, 512, 4096]⟩) off S1x512x4096.size inb).set = blockSet k := by
  ext i
  rw [mem_blockSet]
  constructor
  · intro h
    obtain ⟨x, rfl⟩ := LoadRect.exists_idx_of_mem _ h
    exact congrArg Fin.val (congrFun (rect_emb hk off ho inb x) 0)
  · intro h
    rw [show i = inBlock n k hk (fun | 0 => (0 : Fin 1) | 1 => i 1 | 2 => i 2) from by
      funext a
      fin_cases a
      · exact Fin.ext h
      · rfl
      · rfl, ← rect_emb hk off ho inb]
    exact LoadRect.idx_mem _ _

end Rect

/-! ## The two buffers -/

/-- The operand's staging buffer, the result's, and the scratch, whole. -/
abbrev inM : Memref sig .tc .vmem S4x512x4096 .bf16 := Memref.whole cc3_stg0_0
abbrev outM : Memref sig .tc .vmem S4x512x4096 .bf16 := Memref.whole cc3_stg1_0
abbrev comM : Memref sig .tc .vmem S2x512x4096 .bf16 := Memref.whole cc3_scratch0

/-- A block of the result's buffer and of the scratch, as the program slices them. -/
abbrev outSl (off : Fin 3 → ℕ) (inb : ∀ a, off a + S1x512x4096.size a ≤ S4x512x4096.size a) : Memref sig .tc .vmem S512x4096 .bf16 :=
  (outM.slice (Rect.unit (s := S4x512x4096) off S1x512x4096.size inb) (fun _ => rfl)).squeeze S512x4096 squeezes_S1x512x4096_S512x4096
abbrev comSl (off : Fin 3 → ℕ) (inb : ∀ a, off a + S1x512x4096.size a ≤ S2x512x4096.size a) : Memref sig .tc .vmem S512x4096 .bf16 :=
  (comM.slice (Rect.unit (s := S2x512x4096) off S1x512x4096.size inb) (fun _ => rfl)).squeeze S512x4096 squeezes_S1x512x4096_S512x4096

theorem outSl_set {k : ℕ} (hk : k < 4) (off : Fin 3 → ℕ) (ho : off = ![k, 0, 0]) (inb) : (outSl off inb).view.set = blockSet k := by
  show (((View.whole cc3_stg1_0).slice (Rect.unit (s := S4x512x4096) off S1x512x4096.size inb)).reshape S512x4096 _).set = _
  rw [View.set_reshape, View.set_slice_whole]; exact rect_set hk off ho inb
theorem comSl_set {k : ℕ} (hk : k < 2) (off : Fin 3 → ℕ) (ho : off = ![k, 0, 0]) (inb) : (comSl off inb).view.set = blockSet k := by
  show (((View.whole cc3_scratch0).slice (Rect.unit (s := S2x512x4096) off S1x512x4096.size inb)).reshape S512x4096 _).set = _
  rw [View.set_reshape, View.set_slice_whole]; exact rect_set hk off ho inb

/-- Contents of the scratch that hold, in either slot, block `k` of `f`. -/
def lift (k : ℕ) (hk : k < 4) (f : Vec F S4x512x4096 .bf16) : Vec F S2x512x4096 .bf16 :=
  fun i => f (fun | 0 => ⟨k, hk⟩ | 1 => i 1 | 2 => i 2)

omit [FloatOps F] in
/-- A copy of block `k` of the result's buffer into slot `s` of the scratch leaves the slot holding the block. -/
theorem land_com {k s : ℕ} (hk : k < 4) (hs : s < 2) (off off' : Fin 3 → ℕ) (ho : off = ![k, 0, 0]) (ho' : off' = ![s, 0, 0]) (inb inb')
    (fs : Vec F S4x512x4096 .bf16) (fd : Vec F S2x512x4096 .bf16) (i : S2x512x4096.Idx) (hi : i ∈ (comSl off' inb').view.set) :
    (comSl off' inb').view.write (Elt F) fd ((outSl off inb).view.read (Elt F) fs) Finset.univ i = lift k hk fs i := by
  obtain ⟨j, -, rfl⟩ := Finset.mem_map.mp hi
  rw [View.write_emb_of_mem _ _ (Finset.mem_univ j)]
  show fs ((Rect.unit (s := S4x512x4096) off S1x512x4096.size inb).emb (Shape.reshapeEquiv _ j)) = lift k hk fs ((Rect.unit (s := S2x512x4096) off' S1x512x4096.size inb').emb (Shape.reshapeEquiv _ j))
  rw [rect_emb hk off ho inb, rect_emb hs off' ho' inb']
  refine congrArg fs (funext fun a => ?_)
  fin_cases a <;> rfl

omit [FloatOps F] in
/-- A copy of a block of the result's buffer into the same block leaves it holding the source's values. -/
theorem land_out {k : ℕ} (hk : k < 4) (off off' : Fin 3 → ℕ) (ho : off = ![k, 0, 0]) (ho' : off' = ![k, 0, 0]) (inb inb')
    (fs fd : Vec F S4x512x4096 .bf16) (i : S4x512x4096.Idx) (hi : i ∈ (outSl off' inb').view.set) :
    (outSl off' inb').view.write (Elt F) fd ((outSl off inb).view.read (Elt F) fs) Finset.univ i = fs i := by
  obtain ⟨j, -, rfl⟩ := Finset.mem_map.mp hi
  rw [View.write_emb_of_mem _ _ (Finset.mem_univ j)]
  show fs ((Rect.unit (s := S4x512x4096) off S1x512x4096.size inb).emb (Shape.reshapeEquiv _ j)) = fs ((Rect.unit (s := S4x512x4096) off' S1x512x4096.size inb').emb (Shape.reshapeEquiv _ j))
  rw [rect_emb hk off ho inb, rect_emb hk off' ho' inb']

/-! ## Loads and stores of a block -/

theorem out_loads {k : ℕ} (hk : k < 4) (off : Fin 3 → ℕ) (ho : off = ![k, 0, 0]) (inb) :
    outM.view.setOn (Rect.unit (s := S4x512x4096) off S1x512x4096.size inb).toLoadRect.set ⊆ blockSet k := by
  rw [rect_set hk off ho inb]
  intro i hi
  obtain ⟨x, hx, rfl⟩ := Finset.mem_map.mp hi
  exact hx
theorem com_loads {k : ℕ} (hk : k < 2) (off : Fin 3 → ℕ) (ho : off = ![k, 0, 0]) (inb) :
    comM.view.setOn (Rect.unit (s := S2x512x4096) off S1x512x4096.size inb).toLoadRect.set ⊆ blockSet k := by
  rw [rect_set hk off ho inb]
  intro i hi
  obtain ⟨x, hx, rfl⟩ := Finset.mem_map.mp hi
  exact hx
theorem out_stores {k : ℕ} (hk : k < 4) (off : Fin 3 → ℕ) (ho : off = ![k, 0, 0]) (inb) :
    (outM.access (Rect.unit (s := S4x512x4096) off S1x512x4096.size inb)).setOn Finset.univ ⊆ blockSet k := by
  rw [View.setOn_univ]
  show ((View.whole cc3_stg1_0).slice (Rect.unit (s := S4x512x4096) off S1x512x4096.size inb)).set ⊆ _
  rw [View.set_slice_whole, rect_set hk off ho inb]

/-- One element's addition. -/
def add1 (a b : Vec F S4x512x4096 .bf16) : Vec F S4x512x4096 .bf16 := addf a b

/-- The store of a block plus the slot that holds the same block of `b` leaves `a + b` there. -/
theorem add_block {k s : ℕ} (hk : k < 4) (hs : s < 2) (off off' : Fin 3 → ℕ) (ho : off = ![k, 0, 0]) (ho' : off' = ![s, 0, 0]) (inb inb')
    (a b : Vec F S4x512x4096 .bf16) (i : S4x512x4096.Idx) (hi : i ∈ blockSet k) :
    (outM.access (Rect.unit (s := S4x512x4096) off S1x512x4096.size inb)).write (Elt F) a
        (k3_pay2 (outM.view.readAt (Elt F) (Rect.unit (s := S4x512x4096) off S1x512x4096.size inb).toLoadRect a)
          (comM.view.readAt (Elt F) (Rect.unit (s := S2x512x4096) off' S1x512x4096.size inb').toLoadRect (lift k hk b))) Finset.univ i
      = add1 a b i := by
  rw [← rect_set hk off ho inb] at hi
  obtain ⟨j, rfl⟩ := LoadRect.exists_idx_of_mem _ hi
  rw [show (Rect.unit (s := S4x512x4096) off S1x512x4096.size inb).idx j
      = (outM.access (Rect.unit (s := S4x512x4096) off S1x512x4096.size inb)).emb j from rfl,
    View.write_emb_of_mem _ _ (Finset.mem_univ j)]
  show k3_pay2 (fun x => a ((Rect.unit (s := S4x512x4096) off S1x512x4096.size inb).emb x))
      (fun x => lift k hk b ((Rect.unit (s := S2x512x4096) off' S1x512x4096.size inb').emb x)) j
    = FloatOps.addf (a ((Rect.unit (s := S4x512x4096) off S1x512x4096.size inb).emb j)) (b ((Rect.unit (s := S4x512x4096) off S1x512x4096.size inb).emb j))
  rw [rect_emb hk off ho inb]
  show FloatOps.addf (a ((Rect.unit (s := S4x512x4096) off S1x512x4096.size inb).emb (Shape.reshapeEquiv _ (Shape.reshapeEquiv _ j))))
      (lift k hk b ((Rect.unit (s := S2x512x4096) off' S1x512x4096.size inb').emb (Shape.reshapeEquiv _ (Shape.reshapeEquiv _ j)))) = _
  rw [Shape.reshapeEquiv_reshapeEquiv, Shape.reshapeEquiv_self, rect_emb hk off ho inb, rect_emb hs off' ho' inb']
  refine congrArg (FloatOps.addf _) (congrArg b (funext fun a => ?_))
  fin_cases a <;> rfl

end Cert.KernelIdeal.Talk

end
-- ==== Proof.KernelIdeal.Sched.lean ====
/-
  Who signals whom, what each signal and copy hands over, and in which order the waits are safe. Every core has a barrier
  cell (both neighbours signal it once), two send and two receive cells (three copies each, one per round) and a credit cell
  (the right neighbour signals it four times). `val g c` is what the chunk that `c` sends at step `g` holds: a partial sum
  for the first three steps, a finished sum after that.

  A credit says "what step `d` of the right neighbour freed may be written again". Two credits may be pending at once, and a
  wait for one unit does not say which of them it took; so the facts that a credit brings cover all steps up to its own, and
  the freed buffers themselves wait in slots from which the writer takes them.
-/
module

public import proofs.«01_k».proof.Proof.KernelIdeal.Chunks
public import Idealize.ShloMosaic.Lib.Rounds
public import Idealize.ShloMosaic.Lib.Release
public import Idealize.ShloMosaic.Lib.Tactic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot slotInv released readerAt writeTok)

variable {F : FTy → Type} [FloatOps F]

/-! ## The resource algebra -/

abbrev UP : Type := URounds (GSem nD τ sig) Unit
abbrev UT : Type := URounds (GSem nD τ sig) (Fin 4)
abbrev US : Type := Release.USlots (Dev nD × Fin 4)
/-- The staging's rounds, the ring's rounds, the ring's slots. -/
abbrev UU : Type := UP × (UT × US)

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
def ER : Emb UT (MT nD τ sig ℕ (Elt F) ℕ UU ℕ) :=
  ((Emb.inl : Emb UT (UT × US)).trans (Emb.inr : Emb (UT × US) UU)).trans
    (uEmb (nD := nD) (sig := sig) (Ix := ℕ) (Val := Elt F) (Name := ℕ) (U := UU) (Lvl := ℕ)).toEmb
def ES : Emb US (MT nD τ sig ℕ (Elt F) ℕ UU ℕ) :=
  ((Emb.inr : Emb US (UT × US)).trans (Emb.inr : Emb (UT × US) UU)).trans
    (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UT 𝕄).LandsIn (upEmb : UEmb _ 𝕄) := by unfold ER; infer_instance
instance ES_landsIn : (ES : Emb US 𝕄).LandsIn (upEmb : UEmb _ 𝕄) := by unfold ES; infer_instance

/-! ## Cells -/

abbrev barS : Sem sig := (SemArray.scalar (sig.barrier 0 rfl) : Sems sig S_).sem
abbrev creS : Sem sig := cc3_scratch3.sem
/-- The semaphore of a step, among the two of an array. -/
abbrev sendQ : Fin 2 → DmaSem sig := fun
  | 0 => ((cc3_scratch1.slice (Rect.unit (s := S2) ![0] S1.size inb_S2_S1_0)).squeeze S_ squeezes_S1_S_).sem
  | 1 => ((cc3_scratch1.slice (Rect.unit (s := S2) ![1] S1.size inb_S2_S1_1)).squeeze S_ squeezes_S1_S_).sem
abbrev recvQ : Fin 2 → DmaSem sig := fun
  | 0 => ((cc3_scratch2.slice (Rect.unit (s := S2) ![0] S1.size inb_S2_S1_0)).squeeze S_ squeezes_S1_S_).sem
  | 1 => ((cc3_scratch2.slice (Rect.unit (s := S2) ![1] S1.size inb_S2_S1_1)).squeeze S_ squeezes_S1_S_).sem

abbrev barCell (c : Dev nD) : GSem nD τ sig := ((c : Thread nD τ), .reg barS)
abbrev creCell (c : Dev nD) : GSem nD τ sig := ((c : Thread nD τ), .reg creS)
abbrev sendCell (c : Dev nD) (s : Fin 2) : GSem nD τ sig := ((c : Thread nD τ), .dma (sendQ s))
abbrev recvCell (c : Dev nD) (s : Fin 2) : GSem nD τ sig := ((c : Thread nD τ), .dma (recvQ s))

/-- What a semaphore is to the ring. -/
inductive Kd where
  | bar | cre | send (s : Fin 2) | recv (s : Fin 2) | other
deriving DecidableEq

def kindOf (q : SemLoc sig) : Kd :=
  if q = .reg barS then .bar else if q = .reg creS then .cre
  else if q = .dma (sendQ 0) then .send 0 else if q = .dma (sendQ 1) then .send 1
  else if q = .dma (recvQ 0) then .recv 0 else if q = .dma (recvQ 1) then .recv 1 else .other

theorem kind_bar : kindOf (.reg barS) = .bar := by decide +kernel
theorem kind_cre : kindOf (.reg creS) = .cre := by decide +kernel
theorem kind_send : ∀ s, kindOf (.dma (sendQ s)) = .send s := by decide +kernel
theorem kind_recv : ∀ s, kindOf (.dma (recvQ s)) = .recv s := by decide +kernel

/-- The slot of the scratch (and the semaphore) that step `g` uses. -/
abbrev sl (g : ℕ) : Fin 2 := ⟨g % 2, Nat.mod_lt _ (by decide)⟩

/-- The credit of one copy. -/
@[irreducible] def N : ℕ := (comSl ![0, 0, 0] inb_S2x512x4096_S1x512x4096_0_0_0).view.dmaCredit
theorem N_eq : (comSl ![0, 0, 0] inb_S2x512x4096_S1x512x4096_0_0_0).view.dmaCredit = N := by unfold N; rfl
theorem N_pos : 0 < N := by unfold N; exact View.dmaCredit_pos _ (by decide)

/-! ## Values -/

variable (X : Dev nD → Vec F S4x512x4096 .bf16)

/-- What the chunk that `c` sends at step `g` holds (as contents of a whole buffer, of which only that chunk is meant). -/
def val : ℕ → Dev nD → Vec F S4x512x4096 .bf16
  | 0, c => X c
  | g + 1, c => if g < 3 then add1 (X c) (val g (prv c)) else val g (prv c)

abbrev outPt (c : Dev nD) (k : ℕ) (f : Vec F S4x512x4096 .bf16) : sProp 𝕄 :=
  outM.view.loc (c : Thread nD τ) ↦[blockSet k]{fullShare} f
abbrev comPt (c : Dev nD) (s : ℕ) (f : Vec F S2x512x4096 .bf16) : sProp 𝕄 :=
  comM.view.loc (c : Thread nD τ) ↦[blockSet s]{fullShare} f

/-! ## Slots: buffers freed for the left neighbour -/

/-- What the right neighbour of `c` frees at its step `i`: the slot of the scratch it has added in, then in turn the chunks it
    has sent on. It is what `c`'s copy of step `i + 2` overwrites. -/
def freed (p : Dev nD × Fin 4) : sProp 𝕄 :=
  if p.2 = 0 then slot (comM.view.loc (nxt p.1 : Thread nD τ)) (blockSet 0)
  else slot (outM.view.loc (nxt p.1 : Thread nD τ)) (blockSet (srcK p.1 (p.2.val + 2)))

theorem blockSet_nonempty {n k : ℕ} (hk : k < n) : (blockSet (n := n) k).Nonempty :=
  ⟨inBlock n k hk (fun | 0 => ⟨0, by decide⟩ | 1 => ⟨0, by decide⟩ | 2 => ⟨0, by decide⟩), mem_blockSet.mpr rfl⟩

instance freed_storable (p : Dev nD × Fin 4) : BI.Storable (upEmb : UEmb _ 𝕄) (freed (F := F) p) := by
  unfold freed; split <;> infer_instance

theorem freed_false (p : Dev nD × Fin 4) : iprop(freed p ∗ freed p) ⊢ (False : sProp 𝕄) := by
  unfold freed
  split
  · exact Release.slot_slot_false (blockSet_nonempty (by decide))
  · exact Release.slot_slot_false (blockSet_nonempty (srcK_lt _ _))

/-- Step `i` of the right neighbour is over: it has freed its buffer and opened the next round of its receive cell. -/
def freeFact (c : Dev nD) (i : Fin 4) : sProp 𝕄 :=
  iprop(released ES (c, i) 1 ∗ reached ER (recvCell (nxt c) (sl i.val)) (i.val / 2 + 1))

instance freeFact_persistent (c : Dev nD) (i : Fin 4) : BI.Persistent (freeFact (F := F) c i) := by unfold freeFact; infer_instance
instance freeFact_storable (c : Dev nD) (i : Fin 4) : BI.Storable (upEmb : UEmb _ 𝕄) (freeFact (F := F) c i) := by
  unfold freeFact; infer_instance

/-! ## What is handed over -/

/-- The right neighbour's scratch, with the fact that its receive cells are open; -/
def barPay0 (c : Dev nD) : sProp 𝕄 :=
  iprop((∃ f, comPt (nxt c) 0 f) ∗ (∃ f, comPt (nxt c) 1 f) ∗ reached ER (recvCell (nxt c) 0) 0 ∗ reached ER (recvCell (nxt c) 1) 0)
/-- the fact that the left neighbour's credit cell is open. -/
def barPay1 (c : Dev nD) : sProp 𝕄 := reached ER (creCell (prv c)) 0
/-- The chunk sent, back. -/
def sendPay (c : Dev nD) (g : ℕ) : sProp 𝕄 := outPt c (srcK c g) (val X g c)
/-- The chunk received: in the scratch while summing, in place after that. -/
def recvPay (c : Dev nD) (g : ℕ) : sProp 𝕄 :=
  if g < 3 then comPt c (g % 2) (lift (srcK c (g + 1)) (srcK_lt _ _) (val X g (prv c)))
  else outPt c (srcK c (g + 1)) (val X g (prv c))
/-- All that the right neighbour has freed up to step `d`. -/
def crePay (c : Dev nD) (d : Fin 4) : sProp 𝕄 := bigSep (Finset.univ.filter (· ≤ d)) fun i => freeFact c i

instance crePay_persistent (c : Dev nD) (d : Fin 4) : BI.Persistent (crePay (F := F) c d) := by unfold crePay; infer_instance
instance sendPay_storable (c : Dev nD) (g : ℕ) : BI.Storable (upEmb : UEmb _ 𝕄) (sendPay X c g) := by
  unfold sendPay; infer_instance
instance recvPay_storable (c : Dev nD) (g : ℕ) : BI.Storable (upEmb : UEmb _ 𝕄) (recvPay X c g) := by
  unfold recvPay; split <;> infer_instance
instance crePay_storable (c : Dev nD) (d : Fin 4) : BI.Storable (upEmb : UEmb _ 𝕄) (crePay (F := F) c d) := by unfold crePay; infer_instance

theorem crePay_get {c : Dev nD} {d i : Fin 4} (h : i ≤ d) : (crePay c d : sProp 𝕄) ⊢ (freeFact c i : sProp 𝕄) := by
  unfold crePay; exact bigSep_elim (Φ := fun i => (freeFact c i : sProp 𝕄)) (Finset.mem_filter.mpr ⟨Finset.mem_univ i, h⟩)
theorem crePay_zero (c : Dev nD) : (freeFact c 0 : sProp 𝕄) ⊢ (crePay c 0 : sProp 𝕄) := by
  unfold crePay
  rw [show (Finset.univ.filter (· ≤ (0 : Fin 4))) = {0} from by decide, bigSep_singleton]
theorem crePay_next (c : Dev nD) (d d' : Fin 4) (h : d'.val = d.val + 1) : (iprop(freeFact c d' ∗ crePay c d) : sProp 𝕄) ⊢ (crePay c d' : sProp 𝕄) := by
  unfold crePay
  rw [show (Finset.univ.filter (· ≤ d')) = insert d' (Finset.univ.filter (· ≤ d)) from by revert d d'; decide,
    bigSep_insert (by revert d d'; decide)]
  exact BI.Entails.refl _

def dutiesOf : Kd → ℕ → Finset (Fin 4)
  | .bar, r => if r = 0 then {0, 1} else ∅
  | .cre, r => if r = 0 then Finset.univ else ∅
  | .send _, r => if r < 3 then {0} else ∅
  | .recv _, r => if r < 3 then {0} else ∅
  | .other, _ => ∅
def amountOf : Kd → ℕ
  | .bar => 1 | .cre => 1 | _ => N
theorem amountOf_pos : ∀ k, 0 < amountOf k
  | .bar => Nat.one_pos | .cre => Nat.one_pos | .send _ => N_pos | .recv _ => N_pos | .other => N_pos
def payOf (c : Dev nD) : Kd → ℕ → Fin 4 → sProp 𝕄
  | .bar, _, d => if d = 0 then barPay0 c else barPay1 c
  | .cre, _, d => crePay c d
  | .send s, r, _ => sendPay X c (2 * r + s.val)
  | .recv s, r, _ => recvPay X c (2 * r + s.val)
  | .other, _, _ => iprop(emp)

def Rd : Rounds.Schedule (GSem nD τ sig) (Fin 4) 𝕄 where
  duties g r := dutiesOf (kindOf g.2) r
  unitless _ := False
  amount g _ _ := amountOf (kindOf g.2)
  payload g r d := payOf X g.1.1 (kindOf g.2) r d
  amount_pos g _ _ _ := amountOf_pos _

instance Rd_payload_storable (g : GSem nD τ sig) (r : ℕ) (d : Fin 4) :
    BI.Storable (upEmb : UEmb _ 𝕄) ((Rd X).payload g r d) := by
  show BI.Storable upEmb (payOf X g.1.1 (kindOf g.2) r d)
  rcases kindOf g.2 with _ | _ | s | s | _
  · unfold payOf barPay0 barPay1; (repeat' split) <;> infer_instance
  · unfold payOf; infer_instance
  · unfold payOf; infer_instance
  · unfold payOf; infer_instance
  · unfold payOf; infer_instance

section Sched

variable (c : Dev nD)

theorem duties_bar : (Rd X).duties (barCell c) 0 = {0, 1} := by show dutiesOf (kindOf (.reg barS)) 0 = _; rw [kind_bar]; rfl
theorem duties_cre : (Rd X).duties (creCell c) 0 = Finset.univ := by show dutiesOf (kindOf (.reg creS)) 0 = _; rw [kind_cre]; rfl
theorem duties_send (s : Fin 2) {r : ℕ} (hr : r < 3) : (Rd X).duties (sendCell c s) r = {0} := by
  show dutiesOf (kindOf (.dma (sendQ s))) r = _; rw [kind_send]; exact if_pos hr
theorem duties_recv (s : Fin 2) {r : ℕ} (hr : r < 3) : (Rd X).duties (recvCell c s) r = {0} := by
  show dutiesOf (kindOf (.dma (recvQ s))) r = _; rw [kind_recv]; exact if_pos hr
theorem done_bar : ∀ r, 1 ≤ r → (Rd X).duties (barCell c) r = ∅ := fun r hr => by
  show dutiesOf (kindOf (.reg barS)) r = _; rw [kind_bar]; exact if_neg (by omega)
theorem done_cre : ∀ r, 1 ≤ r → (Rd X).duties (creCell c) r = ∅ := fun r hr => by
  show dutiesOf (kindOf (.reg creS)) r = _; rw [kind_cre]; exact if_neg (by omega)
theorem done_send (s : Fin 2) : ∀ r, 3 ≤ r → (Rd X).duties (sendCell c s) r = ∅ := fun r hr => by
  show dutiesOf (kindOf (.dma (sendQ s))) r = _; rw [kind_send]; exact if_neg (by omega)
theorem done_recv (s : Fin 2) : ∀ r, 3 ≤ r → (Rd X).duties (recvCell c s) r = ∅ := fun r hr => by
  show dutiesOf (kindOf (.dma (recvQ s))) r = _; rw [kind_recv]; exact if_neg (by omega)

theorem amount_bar (d : Fin 4) : (Rd X).amount (barCell c) 0 d = 1 := by show amountOf (kindOf (.reg barS)) = _; rw [kind_bar]; rfl
theorem amount_cre (d : Fin 4) : (Rd X).amount (creCell c) 0 d = 1 := by show amountOf (kindOf (.reg creS)) = _; rw [kind_cre]; rfl
theorem amount_send (s : Fin 2) (r : ℕ) (d : Fin 4) : (Rd X).amount (sendCell c s) r d = N := by
  show amountOf (kindOf (.dma (sendQ s))) = _; rw [kind_send]; rfl
theorem amount_recv (s : Fin 2) (r : ℕ) (d : Fin 4) : (Rd X).amount (recvCell c s) r d = N := by
  show amountOf (kindOf (.dma (recvQ s))) = _; rw [kind_recv]; rfl

theorem expect_bar : (Rd X).expect (barCell c) 0 = 2 := by
  unfold Schedule.expect Schedule.amountOf
  rw [duties_bar, Finset.sum_pair (by decide), amount_bar, amount_bar]
theorem expect_cre : (Rd X).expect (creCell c) 0 = 4 := by
  unfold Schedule.expect Schedule.amountOf
  rw [duties_cre, Finset.sum_congr rfl (fun d _ => amount_cre X c d)]; rfl
theorem expect_send (s : Fin 2) {r : ℕ} (hr : r < 3) : (Rd X).expect (sendCell c s) r = N := by
  unfold Schedule.expect Schedule.amountOf; rw [duties_send X c s hr, Finset.sum_singleton, amount_send]
theorem expect_recv (s : Fin 2) {r : ℕ} (hr : r < 3) : (Rd X).expect (recvCell c s) r = N := by
  unfold Schedule.expect Schedule.amountOf; rw [duties_recv X c s hr, Finset.sum_singleton, amount_recv]

theorem payload_bar0 : (Rd X).payload (barCell c) 0 0 = barPay0 c := by show payOf X c (kindOf (.reg barS)) 0 0 = _; rw [kind_bar]; rfl
theorem payload_bar1 : (Rd X).payload (barCell c) 0 1 = barPay1 c := by show payOf X c (kindOf (.reg barS)) 0 1 = _; rw [kind_bar]; rfl
theorem payload_cre (d : Fin 4) : (Rd X).payload (creCell c) 0 d = crePay c d := by show payOf X c (kindOf (.reg creS)) 0 d = _; rw [kind_cre]; rfl
theorem payload_send (g : ℕ) (d : Fin 4) : (Rd X).payload (sendCell c (sl g)) (g / 2) d = sendPay X c g := by
  show payOf X c (kindOf (.dma (sendQ (sl g)))) (g / 2) d = _; rw [kind_send]; show sendPay X c (2 * (g / 2) + g % 2) = _; rw [Nat.div_add_mod]
theorem payload_recv (g : ℕ) (d : Fin 4) : (Rd X).payload (recvCell c (sl g)) (g / 2) d = recvPay X c g := by
  show payOf X c (kindOf (.dma (recvQ (sl g)))) (g / 2) d = _; rw [kind_recv]; show recvPay X c (2 * (g / 2) + g % 2) = _; rw [Nat.div_add_mod]

theorem rest_bar : bigSep ((Rd X).duties (barCell c) 0 \ ∅) (fun d => (Rd X).payload (barCell c) 0 d) = iprop(barPay0 c ∗ barPay1 c) := by
  rw [Finset.sdiff_empty, duties_bar, bigSep_insert (by decide), bigSep_singleton, payload_bar0, payload_bar1]; rfl
theorem rest_send {g : ℕ} (hg : g < 6) :
    bigSep ((Rd X).duties (sendCell c (sl g)) (g / 2) \ ∅) (fun d => (Rd X).payload (sendCell c (sl g)) (g / 2) d) = sendPay X c g := by
  rw [Finset.sdiff_empty, duties_send X c _ (by omega), bigSep_singleton, payload_send]
theorem rest_recv {g : ℕ} (hg : g < 6) :
    bigSep ((Rd X).duties (recvCell c (sl g)) (g / 2) \ ∅) (fun d => (Rd X).payload (recvCell c (sl g)) (g / 2) d) = recvPay X c g := by
  rw [Finset.sdiff_empty, duties_recv X c _ (by omega), bigSep_singleton, payload_recv]

end Sched

/-! ## What each core owes; levels -/

/-- The receive credit of the copy of step `g`, and the credit of step `d`. -/
abbrev oR (c : Dev nD) (g : ℕ) : CellTallies nD τ sig ℕ := tallyAt (recvCell (nxt c) (sl g)) g N
abbrev oC (c : Dev nD) (d : ℕ) : CellTallies nD τ sig ℕ := tallyAt (creCell (prv c)) d 1
/-- What is owed from step `g` on. -/
abbrev w5 (c : Dev nD) : CellTallies nD τ sig ℕ := 0 + oR c 5
abbrev w4 (c : Dev nD) : CellTallies nD τ sig ℕ := w5 c + oR c 4
abbrev w3 (c : Dev nD) : CellTallies nD τ sig ℕ := w4 c + oC c 3 + oR c 3
abbrev w2 (c : Dev nD) : CellTallies nD τ sig ℕ := w3 c + oC c 2 + oR c 2
abbrev w1 (c : Dev nD) : CellTallies nD τ sig ℕ := w2 c + oC c 1 + oR c 1
abbrev w0 (c : Dev nD) : CellTallies nD τ sig ℕ := w1 c + oC c 0 + oR c 0
def O₀ (c : Dev nD) : CellTallies nD τ sig ℕ := w0 c + tallyAt (barCell (nxt c)) 0 1 + tallyAt (barCell (prv c)) 0 1

def L (g : GSem nD τ sig) : Finset ℕ := if g.1.2 = .tc then Finset.range 6 else ∅
def lvOf : Kd → ℕ → ℕ
  | .bar, _ => 1
  | .recv _, g => 2 * g + 2
  | .cre, d => 2 * d + 3
  | _, _ => 0
def lv (g : GSem nD τ sig) (i : ℕ) : ℕ := lvOf (kindOf g.2) i

theorem L_of_ne (g : GSem nD τ sig) (h : g.1.2 ≠ .tc) : L g = ∅ := if_neg h
theorem L_tc (c : Dev nD) (sm : SemLoc sig) : L ((c : Thread nD τ), sm) = Finset.range 6 := if_pos rfl

/-- Everything in `O` is a known credit above level `b`. -/
def Above (b : ℕ) (O : CellTallies nD τ sig ℕ) : Prop := ∀ g i, 0 < O g i → i ∈ L g ∧ b < lv g i

theorem above_zero (b : ℕ) : Above b 0 := fun g i h => absurd h (Nat.lt_irrefl 0)
theorem Above.add {b : ℕ} {O O' : CellTallies nD τ sig ℕ} (h : Above b O) (h' : Above b O') : Above b (O + O') := fun g i hg => by
  rcases Nat.eq_zero_or_pos (O g i) with h0 | h0
  · refine h' g i ?_
    have : 0 < O g i + O' g i := hg
    omega
  · exact h g i h0
theorem above_at {b : ℕ} (c : Dev nD) (sm : SemLoc sig) (i n : ℕ) (hi : i < 6) (hb : b < lvOf (kindOf sm) i) :
    Above b (tallyAt (((c : Thread nD τ), sm) : GSem nD τ sig) i n) := fun g j hg => by
  rw [tallyAt_apply] at hg
  by_cases h : g = ((c : Thread nD τ), sm) ∧ j = i
  · obtain ⟨rfl, rfl⟩ := h
    exact ⟨by rw [L_tc]; exact Finset.mem_range.mpr hi, hb⟩
  · rw [if_neg h] at hg; exact absurd hg (Nat.lt_irrefl 0)
theorem above_oR {b : ℕ} (c : Dev nD) {g : ℕ} (hg : g < 6) (hb : b < 2 * g + 2) : Above b (oR c g) :=
  above_at _ _ _ _ hg (by rw [kind_recv]; exact hb)
theorem above_oC {b : ℕ} (c : Dev nD) {d : ℕ} (hd : d < 4) (hb : b < 2 * d + 3) : Above b (oC c d) :=
  above_at _ _ _ _ (by omega) (by rw [kind_cre]; exact hb)

theorem above_w5 {b : ℕ} (c : Dev nD) (hb : b < 12) : Above b (w5 c) := (above_zero b).add (above_oR c (by decide) hb)
theorem above_w4 {b : ℕ} (c : Dev nD) (hb : b < 10) : Above b (w4 c) := (above_w5 c (by omega)).add (above_oR c (by decide) hb)
theorem above_w3 {b : ℕ} (c : Dev nD) (hb : b < 8) : Above b (w3 c) :=
  ((above_w4 c (by omega)).add (above_oC c (by decide) (by omega))).add (above_oR c (by decide) hb)
theorem above_w2 {b : ℕ} (c : Dev nD) (hb : b < 6) : Above b (w2 c) :=
  ((above_w3 c (by omega)).add (above_oC c (by decide) (by omega))).add (above_oR c (by decide) hb)
theorem above_w1 {b : ℕ} (c : Dev nD) (hb : b < 4) : Above b (w1 c) :=
  ((above_w2 c (by omega)).add (above_oC c (by decide) (by omega))).add (above_oR c (by decide) hb)
theorem above_w0 {b : ℕ} (c : Dev nD) (hb : b < 2) : Above b (w0 c) :=
  ((above_w1 c (by omega)).add (above_oC c (by decide) (by omega))).add (above_oR c (by decide) hb)

/-- A wait at index `i` of the core's own semaphore is safe while everything owed is above its level. -/
theorem mayWait {O : CellTallies nD τ sig ℕ} (c : Dev nD) (sm : SemLoc sig) (i : ℕ) (hi : i < 6) (h : Above (lvOf (kindOf sm) i) O) :
    (levAts L lv : sProp 𝕄) ⊢ MayWait (c : Thread nD τ) sm i O :=
  MayOwe.of_cut (L := L) (lev := lv) (lvOf (kindOf sm) i)
    (fun p hp => by rw [Finset.mem_singleton.mp hp, L_tc]; exact Finset.mem_range.mpr hi)
    (fun g j hg => (h g j hg).1)
    (fun p hp => by rw [Finset.mem_singleton.mp hp]; exact Nat.le_refl _)
    (fun g j hg => (h g j hg).2)

/-! ## The ghost state -/

/-- The invariants of one device's cells and of the slots it writes. -/
def devInv (K : GSem nD τ sig → ℕ) (Ks : Dev nD × Fin 4 → ℕ) (c : Dev nD) : sProp 𝕄 :=
  iprop(cellInv ER (Rd X) (K (barCell c)) (barCell c) ∗ cellInv ER (Rd X) (K (creCell c)) (creCell c)
    ∗ (bigSep Finset.univ fun s => cellInv ER (Rd X) (K (sendCell c s)) (sendCell c s))
    ∗ (bigSep Finset.univ fun s => cellInv ER (Rd X) (K (recvCell c s)) (recvCell c s))
    ∗ bigSep Finset.univ fun i => slotInv ES (Ks (c, i)) (c, i) (freed (c, i)))

instance devInv_persistent (K : GSem nD τ sig → ℕ) (Ks : Dev nD × Fin 4 → ℕ) (c : Dev nD) : BI.Persistent (devInv X K Ks c) := by
  unfold devInv; infer_instance

/-- All devices'. -/
def invs (K : GSem nD τ sig → ℕ) (Ks : Dev nD × Fin 4 → ℕ) : sProp 𝕄 := bigSep Finset.univ fun c => devInv X K Ks c

instance invs_persistent (K : GSem nD τ sig → ℕ) (Ks : Dev nD × Fin 4 → ℕ) : BI.Persistent (invs X K Ks) := by
  unfold invs; infer_instance

section Inv
variable {K : GSem nD τ sig → ℕ} {Ks : Dev nD × Fin 4 → ℕ}

theorem one_of {I : Type} [Fintype I] [DecidableEq I] (i : I) {Φ : I → sProp 𝕄} : (bigSep Finset.univ Φ : sProp 𝕄) ⊢ (Φ i : sProp 𝕄) :=
  bigSep_elim (Finset.mem_univ i)
theorem invs_dev (c : Dev nD) : (invs X K Ks : sProp 𝕄) ⊢ (devInv X K Ks c : sProp 𝕄) := by
  unfold invs; exact bigSep_elim (Finset.mem_univ c)
theorem invs_bar (c : Dev nD) : invs X K Ks ⊢ cellInv ER (Rd X) (K (barCell c)) (barCell c) := by
  iintro H; ihave H := (invs_dev X c) $$ H; unfold devInv; icases H with ⟨H, -, -, -, -⟩; iexact H
theorem invs_cre (c : Dev nD) : invs X K Ks ⊢ cellInv ER (Rd X) (K (creCell c)) (creCell c) := by
  iintro H; ihave H := (invs_dev X c) $$ H; unfold devInv; icases H with ⟨-, H, -, -, -⟩; iexact H
theorem invs_send (c : Dev nD) (s : Fin 2) : invs X K Ks ⊢ cellInv ER (Rd X) (K (sendCell c s)) (sendCell c s) := by
  iintro H; ihave H := (invs_dev X c) $$ H; unfold devInv; icases H with ⟨-, -, H, -, -⟩
  iapply (one_of s (Φ := fun s => cellInv ER (Rd X) (K (sendCell c s)) (sendCell c s))); iexact H
theorem invs_recv (c : Dev nD) (s : Fin 2) : invs X K Ks ⊢ cellInv ER (Rd X) (K (recvCell c s)) (recvCell c s) := by
  iintro H; ihave H := (invs_dev X c) $$ H; unfold devInv; icases H with ⟨-, -, -, H, -⟩
  iapply (one_of s (Φ := fun s => cellInv ER (Rd X) (K (recvCell c s)) (recvCell c s))); iexact H
theorem invs_slot (c : Dev nD) (i : Fin 4) : invs X K Ks ⊢ slotInv ES (Ks (c, i)) (c, i) (freed (c, i)) := by
  iintro H; ihave H := (invs_dev X c) $$ H; unfold devInv; icases H with ⟨-, -, -, -, H⟩
  iapply (one_of i (Φ := fun i => slotInv ES (Ks (c, i)) (c, i) (freed (c, i)))); iexact H
end Inv

/-- What a device pays with: the tokens of its two barrier signals, of its six copies, of its four credits; and its rights on
    slots, to free its own and to take its right neighbour's. -/
def toks (c : Dev nD) : sProp 𝕄 :=
  iprop(dutyTok ER (barCell (prv c)) 0 0 ∗ dutyTok ER (barCell (nxt c)) 0 1
    ∗ (bigSep (Finset.range 6) fun g => dutyTok ER (sendCell c (sl g)) (g / 2) 0)
    ∗ (bigSep (Finset.range 6) fun g => dutyTok ER (recvCell (nxt c) (sl g)) (g / 2) 0)
    ∗ (bigSep (Finset.univ : Finset (Fin 4)) fun d => dutyTok ER (creCell (prv c)) 0 d)
    ∗ (bigSep (Finset.univ : Finset (Fin 4)) fun i => readerAt ES (prv c, i) 0)
    ∗ bigSep (Finset.univ : Finset (Fin 4)) fun i => writeTok ES (c, i) 1)

/-- The credits it waits with. -/
def creds (c : Dev nD) : sProp 𝕄 :=
  iprop(cred (tallyAt (barCell c) 0 2) ∗ (bigSep (Finset.range 6) fun g => cred (tallyAt (recvCell c (sl g)) g N))
    ∗ bigSep (Finset.range 4) fun d => cred (tallyAt (creCell c) d 1))

/-- From launch to the kernel; its own semaphores' cells are still closed. -/
def ghost (K : GSem nD τ sig → ℕ) (Ks : Dev nD × Fin 4 → ℕ) (c : Dev nD) : sProp 𝕄 :=
  iprop(invs X K Ks ∗ atPos ER (barCell c) 0 ∅ 0 ∗ reached ER (barCell (prv c)) 0 ∗ reached ER (barCell (nxt c)) 0
    ∗ openTok ER (creCell c) ∗ (bigSep Finset.univ fun s => openTok ER (sendCell c s)) ∗ (bigSep Finset.univ fun s => openTok ER (recvCell c s))
    ∗ toks c)

def start (c : Dev nD) : sProp 𝕄 := iprop((∃ K Ks, ghost X K Ks c) ∗ creds c)

/-- Inside the kernel, its cells open. -/
def opened (K : GSem nD τ sig → ℕ) (Ks : Dev nD × Fin 4 → ℕ) (c : Dev nD) : sProp 𝕄 :=
  iprop(invs X K Ks ∗ atPos ER (barCell c) 0 ∅ 0 ∗ reached ER (barCell (prv c)) 0 ∗ reached ER (barCell (nxt c)) 0
    ∗ (atPos ER (creCell c) 0 ∅ 0 ∗ reached ER (creCell c) 0)
    ∗ (bigSep Finset.univ fun s => iprop(atPos ER (sendCell c s) 0 ∅ 0 ∗ reached ER (sendCell c s) 0))
    ∗ (bigSep Finset.univ fun s => iprop(atPos ER (recvCell c s) 0 ∅ 0 ∗ reached ER (recvCell c s) 0))
    ∗ toks c)

end Cert.KernelIdeal.Talk

end
-- ==== Proof.KernelIdeal.Hop.lean ====
/-
  The moves a device makes, one lemma each: a copy to the right neighbour together with the two waits for it (`hop`, and its
  two forms: into the scratch, and in place), the addition of what came in, the freeing and the taking of a buffer, the
  credit's signal and its wait.
-/
module

public import proofs.«01_k».proof.Proof.KernelIdeal.Sched

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot slotInv released readerAt writeTok)

variable {F : FTy → Type} [FloatOps F]

local notation "𝕄" => MT nD τ sig ℕ (Elt F) ℕ UU ℕ

variable (X : Dev nD → Vec F S4x512x4096 .bf16)

abbrev 𝒱₀ : Variants := Variants.none

/-! ## Copies -/

/-- A device's position on the send and the receive cell of slot `s`, both in round `r`. -/
def posAt (c : Dev nD) (s : Fin 2) (r : ℕ) : sProp 𝕄 :=
  iprop(atPos ER (sendCell c s) r ∅ 0 ∗ reached ER (sendCell c s) r ∗ atPos ER (recvCell c s) r ∅ 0)
/-- What the copy of step `g` costs. -/
def fare (c : Dev nD) (g : ℕ) : sProp 𝕄 :=
  iprop(dutyTok ER (sendCell c (sl g)) (g / 2) 0 ∗ dutyTok ER (recvCell (nxt c) (sl g)) (g / 2) 0 ∗ cred (tallyAt (recvCell c (sl g)) g N))

theorem hop {K : GSem nD τ sig → ℕ} {Ks : Dev nD × Fin 4 → ℕ} (c : Dev nD) (g : ℕ) (hg : g < 6) {n : Dev nD} (hn : n = nxt c)
    {src dst wA wB wC wD : Memref sig .tc .vmem S512x4096 .bf16} {hsc : dst.view.ref.isScScratch = false}
    {qs qr : DmaSem sig} (hqs : qs = sendQ (sl g)) (hqr : qr = recvQ (sl g))
    {hsrc : src.view.WordExact} {hdst : dst.view.WordExact}
    {hsem : DmaTarget.Typed (nD := nD) (τ := τ) (p := .tc) .vmem (.dma qr) (.remote (Dev.tc n) dst (.dma qs) hsc)}
    {hA : wA.view.WordExact} {hB : wB.view.WordExact} {hC : wC.view.WordExact} {hD : wD.view.WordExact}
    (hcd : dst.view.dmaCredit = N) (hcB : wB.view.dmaCredit = N) (hcD : wD.view.dmaCredit = N)
    {fs : Buf (Elt F) (src.view.loc (c : Thread nD τ))} {fd : Buf (Elt F) (dst.view.loc (n : Thread nD τ))}
    (hpay₁ : (src.view.loc (c : Thread nD τ) ↦[src.view.set]{fullShare} fs : sProp 𝕄) ⊢ sendPay X c g)
    (hpay₂ : (dst.view.loc (n : Thread nD τ) ↦[dst.view.set]{fullShare} (dst.view.write (Elt F) fd (src.view.read (Elt F) fs) Finset.univ) : sProp 𝕄)
      ⊢ recvPay X n g)
    {O : CellTallies nD τ sig ℕ} (hO0 : Above 0 O) (hOg : Above (2 * g + 2) O) (W : Waits sig ℕ)
    {k : PUnit → Prog (TpuEff nD τ sig (Elt F) Λ₀ .tc) PUnit} {Q : PUnit → sProp 𝕄} :
    iprop(invs X K Ks ∗ levAts L lv
        ∗ (src.view.loc (c : Thread nD τ) ↦[src.view.set]{fullShare} fs) ∗ (dst.view.loc (n : Thread nD τ) ↦[dst.view.set]{fullShare} fd)
        ∗ owes (c : Thread nD τ) (O + oR c g) W ∗ posAt c (sl g) (g / 2) ∗ reached ER (recvCell (nxt c) (sl g)) (g / 2) ∗ fare c g)
      ⊢ iprop((∀ W' : Waits sig ℕ, (owes (c : Thread nD τ) O W' ∗ posAt c (sl g) (g / 2 + 1) ∗ reached ER (recvCell c (sl g)) (g / 2 + 1)
            ∗ sendPay X c g ∗ recvPay X c g) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n) dst (.dma qs) hsc) (.dma qr) hsrc hdst hsem) fun _ =>
            .op (.waitDma2 qs wA wB hA hB) fun _ => .op (.waitDma2 qr wC wD hC hD) k) Q) := by
  subst hn hqs hqr
  have hr : g / 2 < 3 := by omega
  unfold posAt fare
  iintro ⟨#HI, #Hlev, Hs, Hd, HO, ⟨HatS, #HrS, HatV⟩, #HrN, HtS, HtN, Hc⟩ Hk
  iapply (Rounds.wp_send_pointsTo 𝒱₀ ER (Rd X) (c : Thread nD τ) none (c' := (nxt c : Thread nD τ)) (src := src) (dst := dst)
      (sS := .dma (sendQ (sl g))) (sem := .dma (recvQ (sl g))) (q := fullShare) (fs := fs) (κ₁ := K (sendCell c (sl g)))
      (κ₂ := K (recvCell (nxt c) (sl g))) (r₁ := g / 2) (r₂ := g / 2) (d₁ := 0) (d₂ := 0) (fd := fd)
      (by rw [duties_send X c _ hr]; exact Finset.mem_singleton_self _) (by rw [duties_recv X (nxt c) _ hr]; exact Finset.mem_singleton_self _)
      g 0 N hcd (amount_send X c (sl g) (g / 2) 0) (amount_recv X (nxt c) (sl g) (g / 2) 0) O rfl (W := W)
      (by rw [payload_send]; exact hpay₁) (by rw [payload_recv]; exact hpay₂)) $$ [Hs Hd HO HtS HtN]
  · isplitr; · iapply (invs_send X c (sl g)); iexact HI
    isplitr; · iapply (invs_recv X (nxt c) (sl g)); iexact HI
    isplitl [Hs]; · iexact Hs
    isplitl [Hd]; · iexact Hd
    isplitl [HO]; · iexact HO
    isplitl [HtS]; · iexact HtS
    isplitr; · iexact HrS
    isplitl [HtN]; · iexact HtN
    iexact HrN
  iintro ⟨HcS, HO⟩
  iapply (Rounds.wp_wait_rest_token 𝒱₀ ER (Rd X) (c : Thread nD τ) none (κ := K (sendCell c (sl g)))
      (wpE_waitDma2_eq 𝒱₀ (c : Thread nD τ) none Set.univ) (Set.mem_univ _) 0 (O := O) (W := W) (R := g / 2) (m := 0) (T := ∅)
      ((Nat.zero_add _).trans (hcB.trans (expect_send X c _ hr).symm))) $$ [HcS HO HatS]
  · isplitr; · iapply (invs_send X c (sl g)); iexact HI
    isplitl [HcS]; · rw [hcB]; iexact HcS
    isplitl [HO]; · iexact HO
    isplitr; · iapply (mayWait c _ 0 (by decide) (by rw [kind_send]; exact hO0)); iexact Hlev
    iexact HatS
  iintro ⟨HO, HatS, #HrS1, Hpay⟩
  ihave Hs := (Entails.of_eq (rest_send X c hg)) $$ Hpay
  iapply (Rounds.wp_wait_rest_token 𝒱₀ ER (Rd X) (c : Thread nD τ) none (κ := K (recvCell c (sl g)))
      (wpE_waitDma2_eq 𝒱₀ (c : Thread nD τ) none Set.univ) (Set.mem_univ _) g (O := O) (R := g / 2) (m := 0) (T := ∅)
      ((Nat.zero_add _).trans (hcD.trans (expect_recv X c _ hr).symm))) $$ [Hc HO HatV]
  · isplitr; · iapply (invs_recv X c (sl g)); iexact HI
    isplitl [Hc]; · rw [hcD]; iexact Hc
    isplitl [HO]; · iexact HO
    isplitr; · iapply (mayWait c _ g hg (by rw [kind_recv]; exact hOg)); iexact Hlev
    iexact HatV
  iintro ⟨HO, HatV, #HrV1, Hpay⟩
  ihave Hv := (Entails.of_eq (rest_recv X c hg)) $$ Hpay
  iapply Hk
  isplitl [HO]; · iexact HO
  isplitl [HatS HatV]
  · isplitl [HatS]; · iexact HatS
    isplitr; · iexact HrS1
    iexact HatV
  isplitr; · iexact HrV1
  isplitl [Hs] <;> iassumption

section Forms

variable {K : GSem nD τ sig → ℕ} {Ks : Dev nD × Fin 4 → ℕ} (c : Dev nD)

theorem outSl_pts {k : ℕ} (hk : k < 4) {off : Fin 3 → ℕ} (ho : off = ![k, 0, 0]) (inb) (f : Vec F S4x512x4096 .bf16) :
    ((outSl off inb).view.loc (c : Thread nD τ) ↦[(outSl off inb).view.set]{fullShare} f : sProp 𝕄) = outPt c k f := by
  rw [outSl_set hk off ho inb]
theorem comSl_pts {k : ℕ} (hk : k < 2) {off : Fin 3 → ℕ} (ho : off = ![k, 0, 0]) (inb) (f : Vec F S2x512x4096 .bf16) :
    ((comSl off inb).view.loc (c : Thread nD τ) ↦[(comSl off inb).view.set]{fullShare} f : sProp 𝕄) = comPt c k f := by
  rw [comSl_set hk off ho inb]

theorem outSl_credit (off : Fin 3 → ℕ) (inb) : (outSl off inb).view.dmaCredit = N := by rw [← N_eq]
theorem comSl_credit (off : Fin 3 → ℕ) (inb) : (comSl off inb).view.dmaCredit = N := by rw [← N_eq]

theorem srcK_nxt {g : ℕ} (hg : g < 6) : srcK (nxt c) (g + 1) = srcK c g := by rw [← srcK_prv (nxt c) g hg, prv_nxt]
theorem srcK_four {g : ℕ} (hg : g ≤ 4) : srcK c (g + 4) = srcK c g := by unfold srcK; omega

theorem recvPay_sum {g : ℕ} (hg : g < 3) : recvPay X c g = comPt c (g % 2) (lift (srcK c (g + 1)) (srcK_lt _ _) (val X g (prv c))) := if_pos hg
theorem recvPay_gather {g : ℕ} (hg : 3 ≤ g) : recvPay X c g = outPt c (srcK c (g + 1)) (val X (g + 1) c) := by
  unfold recvPay; rw [if_neg (by omega), val, if_neg (by omega)]
theorem val_sum {g : ℕ} (hg : g < 3) : val X (g + 1) c = add1 (X c) (val X g (prv c)) := if_pos hg

/-- A copy into the right neighbour's scratch, a step of the summing half. -/
theorem hopCom (g : ℕ) (hg : g < 3) {n : Dev nD} (hn : n = nxt c) {off offs : Fin 3 → ℕ} (ho : off = ![srcK c g, 0, 0])
    (hos : offs = ![g % 2, 0, 0]) {inb inbs} {hsc : (comSl offs inbs).view.ref.isScScratch = false}
    {qs qr : DmaSem sig} (hqs : qs = sendQ (sl g)) (hqr : qr = recvQ (sl g))
    {hsrc : (outSl off inb).view.WordExact} {hdst : (comSl offs inbs).view.WordExact}
    {hsem : DmaTarget.Typed (nD := nD) (τ := τ) (p := .tc) .vmem (.dma qr) (.remote (Dev.tc n) (comSl offs inbs) (.dma qs) hsc)}
    {hA : (comSl offs inbs).view.WordExact} {hB : (outSl off inb).view.WordExact} {hC : (outSl off inb).view.WordExact}
    {hD : (comSl offs inbs).view.WordExact}
    {O : CellTallies nD τ sig ℕ} (hO0 : Above 0 O) (hOg : Above (2 * g + 2) O) (W : Waits sig ℕ)
    {k : PUnit → Prog (TpuEff nD τ sig (Elt F) Λ₀ .tc) PUnit} {Q : PUnit → sProp 𝕄} :
    iprop(invs X K Ks ∗ levAts L lv ∗ outPt c (srcK c g) (val X g c) ∗ (∃ f, comPt (nxt c) (g % 2) f)
        ∗ owes (c : Thread nD τ) (O + oR c g) W ∗ posAt c (sl g) (g / 2) ∗ reached ER (recvCell (nxt c) (sl g)) (g / 2) ∗ fare c g)
      ⊢ iprop((∀ W' : Waits sig ℕ, (owes (c : Thread nD τ) O W' ∗ posAt c (sl g) (g / 2 + 1) ∗ reached ER (recvCell c (sl g)) (g / 2 + 1)
            ∗ outPt c (srcK c g) (val X g c) ∗ comPt c (g % 2) (lift (srcK c (g + 1)) (srcK_lt _ _) (val X g (prv c))))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (outSl off inb) (.remote (Dev.tc n) (comSl offs inbs) (.dma qs) hsc) (.dma qr) hsrc hdst hsem) fun _ =>
            .op (.waitDma2 qs (comSl offs inbs) (outSl off inb) hA hB) fun _ =>
            .op (.waitDma2 qr (outSl off inb) (comSl offs inbs) hC hD) k) Q) := by
  iintro ⟨#HI, #Hlev, Hs, ⟨%fd, Hd⟩, HO, Hp, #HrN, Hf⟩ Hk
  iapply (hop X c g (by omega) hn hqs hqr (comSl_credit _ _) (outSl_credit _ _) (comSl_credit _ _) (K := K) (Ks := Ks)
      (src := outSl off inb) (dst := comSl offs inbs) (wA := comSl offs inbs) (wB := outSl off inb) (wC := outSl off inb) (wD := comSl offs inbs)
      (fs := val X g c) (fd := fd)
      (by rw [outSl_pts c (srcK_lt c g) ho inb]; exact BI.Entails.refl _)
      (by
        subst hn
        refine (Entails.of_eq (pointsTo_congr (g := lift (srcK c g) (srcK_lt _ _) (val X g c)) fun i hi =>
          land_com (srcK_lt c g) (Nat.mod_lt _ (by decide)) off offs ho hos inb inbs (val X g c) fd i hi)).trans ?_
        rw [comSl_pts (nxt c) (Nat.mod_lt _ (by decide)) hos inbs]
        unfold recvPay
        rw [if_pos hg, prv_nxt]
        refine Entails.of_eq ?_
        congr 2
        exact (srcK_nxt c (by omega)).symm)
      hO0 hOg W) $$ [Hs Hd HO Hp Hf]
  · isplitr; · iexact HI
    isplitr; · iexact Hlev
    isplitl [Hs]; · rw [outSl_pts c (srcK_lt c g) ho inb]; iexact Hs
    isplitl [Hd]; · rw [comSl_pts n (Nat.mod_lt _ (by decide)) hos inbs, hn]; iexact Hd
    isplitl [HO]; · iexact HO
    isplitl [Hp]; · iexact Hp
    isplitr; · iexact HrN
    iexact Hf
  iintro %W' ⟨HO, Hp, #Hr, Hs, Hv⟩
  iapply Hk
  isplitl [HO]; · iexact HO
  isplitl [Hp]; · iexact Hp
  isplitr; · iexact Hr
  isplitl [Hs]; · unfold sendPay; iexact Hs
  ihave Hv := (Entails.of_eq (recvPay_sum X c hg)) $$ Hv
  iexact Hv

/-- A copy of a finished chunk, in place, a step of the gathering half. -/
theorem hopOut (g : ℕ) (hg : 3 ≤ g) (hg6 : g < 6) {n : Dev nD} (hn : n = nxt c) {off : Fin 3 → ℕ} (ho : off = ![srcK c g, 0, 0])
    {inb} {hsc : (outSl off inb).view.ref.isScScratch = false}
    {qs qr : DmaSem sig} (hqs : qs = sendQ (sl g)) (hqr : qr = recvQ (sl g))
    {hsrc : (outSl off inb).view.WordExact} {hdst : (outSl off inb).view.WordExact}
    {hsem : DmaTarget.Typed (nD := nD) (τ := τ) (p := .tc) .vmem (.dma qr) (.remote (Dev.tc n) (outSl off inb) (.dma qs) hsc)}
    {hA hB hC hD : (outSl off inb).view.WordExact}
    {O : CellTallies nD τ sig ℕ} (hO0 : Above 0 O) (hOg : Above (2 * g + 2) O) (W : Waits sig ℕ)
    {k : PUnit → Prog (TpuEff nD τ sig (Elt F) Λ₀ .tc) PUnit} {Q : PUnit → sProp 𝕄} :
    iprop(invs X K Ks ∗ levAts L lv ∗ outPt c (srcK c g) (val X g c) ∗ (∃ f, outPt (nxt c) (srcK c g) f)
        ∗ owes (c : Thread nD τ) (O + oR c g) W ∗ posAt c (sl g) (g / 2) ∗ reached ER (recvCell (nxt c) (sl g)) (g / 2) ∗ fare c g)
      ⊢ iprop((∀ W' : Waits sig ℕ, (owes (c : Thread nD τ) O W' ∗ posAt c (sl g) (g / 2 + 1) ∗ reached ER (recvCell c (sl g)) (g / 2 + 1)
            ∗ outPt c (srcK c g) (val X g c) ∗ outPt c (srcK c (g + 1)) (val X (g + 1) c))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (outSl off inb) (.remote (Dev.tc n) (outSl off inb) (.dma qs) hsc) (.dma qr) hsrc hdst hsem) fun _ =>
            .op (.waitDma2 qs (outSl off inb) (outSl off inb) hA hB) fun _ =>
            .op (.waitDma2 qr (outSl off inb) (outSl off inb) hC hD) k) Q) := by
  iintro ⟨#HI, #Hlev, Hs, ⟨%fd, Hd⟩, HO, Hp, #HrN, Hf⟩ Hk
  iapply (hop X c g hg6 hn hqs hqr (outSl_credit _ _) (outSl_credit _ _) (outSl_credit _ _) (K := K) (Ks := Ks)
      (src := outSl off inb) (dst := outSl off inb) (wA := outSl off inb) (wB := outSl off inb) (wC := outSl off inb) (wD := outSl off inb)
      (fs := val X g c) (fd := fd)
      (by rw [outSl_pts c (srcK_lt c g) ho inb]; exact BI.Entails.refl _)
      (by
        subst hn
        refine (Entails.of_eq (pointsTo_congr (g := val X g c) fun i hi =>
          land_out (srcK_lt c g) off off ho ho inb inb (val X g c) fd i hi)).trans ?_
        rw [outSl_pts (nxt c) (srcK_lt c g) ho inb]
        unfold recvPay
        rw [if_neg (by omega), prv_nxt, srcK_nxt c hg6])
      hO0 hOg W) $$ [Hs Hd HO Hp Hf]
  · isplitr; · iexact HI
    isplitr; · iexact Hlev
    isplitl [Hs]; · rw [outSl_pts c (srcK_lt c g) ho inb]; iexact Hs
    isplitl [Hd]; · rw [outSl_pts n (srcK_lt c g) ho inb, hn]; iexact Hd
    isplitl [HO]; · iexact HO
    isplitl [Hp]; · iexact Hp
    isplitr; · iexact HrN
    iexact Hf
  iintro %W' ⟨HO, Hp, #Hr, Hs, Hv⟩
  iapply Hk
  isplitl [HO]; · iexact HO
  isplitl [Hp]; · iexact Hp
  isplitr; · iexact Hr
  isplitl [Hs]; · unfold sendPay; iexact Hs
  ihave Hv := (Entails.of_eq (recvPay_gather X c hg)) $$ Hv
  iexact Hv

/-- The chunk after the store of the sum. -/
theorem stored {k s : ℕ} (hk : k < 4) (hs : s < 2) {off off' : Fin 3 → ℕ} (ho : off = ![k, 0, 0]) (ho' : off' = ![s, 0, 0]) (inb inb')
    (a b : Vec F S4x512x4096 .bf16) :
    ((outM.access (Rect.unit (s := S4x512x4096) off S1x512x4096.size inb)).loc (c : Thread nD τ) ↦[blockSet k]{fullShare}
      ((outM.access (Rect.unit (s := S4x512x4096) off S1x512x4096.size inb)).write (Elt F) a
        (k3_pay2 (outM.view.readAt (Elt F) (Rect.unit (s := S4x512x4096) off S1x512x4096.size inb).toLoadRect a)
          (comM.view.readAt (Elt F) (Rect.unit (s := S2x512x4096) off' S1x512x4096.size inb').toLoadRect (lift k hk b))) Finset.univ) : sProp 𝕄)
      = outPt c k (add1 a b) :=
  pointsTo_congr fun i hi => add_block hk hs off off' ho ho' inb inb' a b i hi

/-- The addition of a chunk that came in to the device's own. -/
theorem addIn (g : ℕ) (hg : g < 3) {off offs : Fin 3 → ℕ} (ho : off = ![srcK c (g + 1), 0, 0]) (hos : offs = ![g % 2, 0, 0]) {inb inbs}
    {hl hl'} {hls} {hx} {hm} {pay : Vec F S1x512x4096 .bf16 → Vec F S1x512x4096 .bf16 → FVec F S1x512x4096 .bf16} (hpay : pay = k3_pay2)
    {k : PUnit → Prog (TpuEff nD τ sig (Elt F) Λ₀ .tc) PUnit} {Q : PUnit → sProp 𝕄} :
    iprop(outPt c (srcK c (g + 1)) (X c) ∗ comPt c (g % 2) (lift (srcK c (g + 1)) (srcK_lt _ _) (val X g (prv c))))
      ⊢ iprop(((outPt c (srcK c (g + 1)) (val X (g + 1) c) ∗ comPt c (g % 2) (lift (srcK c (g + 1)) (srcK_lt _ _) (val X g (prv c))))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load outM (Rect.unit (s := S4x512x4096) off S1x512x4096.size inb).toLoadRect hl) fun v =>
            .op (.load comM (Rect.unit (s := S2x512x4096) offs S1x512x4096.size inbs).toLoadRect hls) fun w =>
            .op (.load outM (Rect.unit (s := S4x512x4096) off S1x512x4096.size inb).toLoadRect hl') fun _ =>
            .op (.store outM (Rect.unit (s := S4x512x4096) off S1x512x4096.size inb) (pay v w) Finset.univ hx hm) k) Q) := by
  subst hpay
  iintro ⟨Ho, Hc⟩ Hk
  iapply (wp_load 𝒱₀ (c : Thread nD τ) none Set.univ (m := outM) (out_loads (srcK_lt c (g + 1)) off ho inb)) $$ Ho
  iintro Ho
  iapply (wp_load 𝒱₀ (c : Thread nD τ) none Set.univ (m := comM) (com_loads (Nat.mod_lt _ (by decide)) offs hos inbs)) $$ Hc
  iintro Hc
  iapply (wp_load 𝒱₀ (c : Thread nD τ) none Set.univ (m := outM) (out_loads (srcK_lt c (g + 1)) off ho inb)) $$ Ho
  iintro Ho
  iapply (wp_store 𝒱₀ (c : Thread nD τ) none Set.univ (m := outM) (Mk := Finset.univ) (out_stores (srcK_lt c (g + 1)) off ho inb)) $$ Ho
  iintro Ho
  iapply Hk
  isplitl [Ho]
  · ihave Ho := (Entails.of_eq (stored c (srcK_lt c (g + 1)) (Nat.mod_lt _ (by decide)) ho hos inb inbs (X c) (val X g (prv c)))) $$ Ho
    rw [val_sum X c hg]
    iexact Ho
  iexact Hc

/-! ## Freeing and taking -/

/-- The device frees, for its left neighbour, the buffer of its step `i`. -/
theorem freeOne (i : Fin 4) :
    iprop(invs X K Ks ∗ readerAt ES (prv c, i) 0 ∗ freed (prv c, i) ∗ reached ER (recvCell c (sl i.val)) (i.val / 2 + 1))
      ⊢ (|={Set.univ}=> freeFact (prv c) i : sProp 𝕄) := by
  iintro ⟨#HI, Hr, Hf, #Hrc⟩
  imod (Release.slot_release ES (Set.mem_univ (Ks (prv c, i))) (freed_false (prv c, i)) 0) $$ [Hr Hf] with ⟨-, #Hrel⟩
  · isplitr; · iapply (invs_slot X (prv c) i); iexact HI
    isplitl [Hr] <;> iassumption
  imodintro
  unfold freeFact
  rw [nxt_prv]
  isplitr <;> iassumption

/-- The device takes what its right neighbour freed at its step `i`. -/
theorem takeOne (i : Fin 4) :
    iprop(invs X K Ks ∗ freeFact c i ∗ writeTok ES (c, i) 1) ⊢ (|={Set.univ}=> freed (c, i) : sProp 𝕄) := by
  unfold freeFact
  iintro ⟨#HI, ⟨#Hrel, -⟩, Ht⟩
  iapply (Release.slot_take ES (Set.mem_univ (Ks (c, i))) 1)
  isplitr; · iapply (invs_slot X c i); iexact HI
  isplitr; · iexact Hrel
  iexact Ht

/-! ## Credits -/

/-- Between the waits: `j` units are taken, and the facts of at least `j` credits known. -/
def creSt (j : ℕ) : sProp 𝕄 :=
  iprop(∃ S : Finset (Fin 4), ⌜j ≤ S.card⌝ ∗ atPos ER (creCell c) 0 S j ∗ bigSep S fun d => crePay c d)

theorem some_late : ∀ (S : Finset (Fin 4)) (j : Fin 4), j.val + 1 ≤ S.card → ∃ d ∈ S, j ≤ d := by decide +kernel

theorem facts_union (T T' : Finset (Fin 4)) :
    (iprop((bigSep T fun d => crePay c d) ∗ bigSep T' fun d => crePay c d) : sProp 𝕄) ⊢ (bigSep (T ∪ T') fun d => crePay c d : sProp 𝕄) :=
  Release.heard_union _ T T'
theorem fact_of (S : Finset (Fin 4)) {d : Fin 4} (hd : d ∈ S) : (bigSep S fun d => crePay c d : sProp 𝕄) ⊢ (crePay c d : sProp 𝕄) :=
  bigSep_elim hd

theorem creSt_zero : (atPos ER (creCell c) 0 ∅ 0 : sProp 𝕄) ⊢ creSt c 0 := by
  unfold creSt
  iintro H
  iexists ∅
  isplitr; · ipureintro; exact Nat.zero_le _
  isplitl [H]; · iexact H
  rw [bigSep_empty]; iempintro

/-- The device's credit for its step `d`. -/
theorem creSig (d : Fin 4) {n : Dev nD} (hn : n = prv c) {O : CellTallies nD τ sig ℕ} (W : Waits sig ℕ)
    {k : PUnit → Prog (TpuEff nD τ sig (Elt F) Λ₀ .tc) PUnit} {Q : PUnit → sProp 𝕄} :
    iprop(invs X K Ks ∗ owes (c : Thread nD τ) (O + oC c d.val) W ∗ dutyTok ER (creCell (prv c)) 0 d ∗ reached ER (creCell (prv c)) 0 ∗ crePay (prv c) d)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) creS 1) k) Q) := by
  subst hn
  iintro ⟨#HI, HO, Ht, #Hr, #Hp⟩ Hk
  iapply (Rounds.wp_signal 𝒱₀ ER (Rd X) (c : Thread nD τ) none (dst := (prv c : Thread nD τ)) (sem := creS) (r := 0) (d := d) (κ := K (creCell (prv c)))
      (by rw [duties_cre]; exact Finset.mem_univ _) (amount_cre X (prv c) d) d.val O rfl) $$ [HO Ht]
  · isplitr; · iapply (invs_cre X (prv c)); iexact HI
    isplitl [HO]; · iexact HO
    isplitl [Ht]; · iexact Ht
    isplitr; · rw [payload_cre]; iexact Hp
    iexact Hr
  iexact Hk

/-- The wait for a credit before step `j + 2`: afterwards step `j` of the right neighbour is known to be over. -/
theorem creWait (j : Fin 4) (hj : j.val < 3) {O : CellTallies nD τ sig ℕ} (hO : Above (2 * j.val + 3) O) (W : Waits sig ℕ)
    {k : PUnit → Prog (TpuEff nD τ sig (Elt F) Λ₀ .tc) PUnit} {Q : PUnit → sProp 𝕄} :
    iprop(invs X K Ks ∗ levAts L lv ∗ creSt c j.val ∗ cred (tallyAt (creCell c) j.val 1) ∗ owes (c : Thread nD τ) O W)
      ⊢ iprop((∀ W' : Waits sig ℕ, (owes (c : Thread nD τ) O W' ∗ creSt c (j.val + 1) ∗ freeFact c j)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait creS 1) k) Q) := by
  unfold creSt
  iintro ⟨#HI, #Hlev, ⟨%T, %hT, Hat, #HT⟩, Hc, HO⟩ Hk
  iapply (Rounds.wp_wait 𝒱₀ ER (Rd X) (c : Thread nD τ) none (κ := K (creCell c))
      (wpE_semWait_eq 𝒱₀ (c : Thread nD τ) none Set.univ) (Set.mem_univ _) (cr := Finsupp.single j.val 1) (O := O) (W := W)
      {(SemLoc.reg creS, j.val)} (R := 0) (m := j.val) (T := T) (by rw [Util.total_single]) (image_single_subset _ _ _)) $$ [Hc HO Hat]
  · isplitr; · iapply (invs_cre X c); iexact HI
    isplitl [Hc]; · iexact Hc
    isplitl [HO]; · iexact HO
    isplitr; · iapply (mayWait c _ j.val (by omega) (by rw [kind_cre]; exact hO)); iexact Hlev
    iexact Hat
  iintro %S ⟨%hS, HO, Hat, Hpay⟩
  obtain ⟨hTS, -, hcard⟩ := hS
  rw [duties_cre, expect_cre, Finset.card_univ_diff] at hcard
  have hSc : j.val + 1 ≤ S.card := by
    have h4 : Fintype.card (Fin 4) = 4 := Fintype.card_fin 4
    have hcard' : j.val + 1 + (Fintype.card (Fin 4) - S.card) ≤ 4 := hcard
    have := Finset.card_le_univ S
    omega
  ihave Hpay := (Entails.of_eq (bigSep_congr fun d _ => payload_cre X c d)) $$ Hpay
  ihave #HS := (facts_union c T (S \ T)) $$ [Hpay]
  · isplitr; · iexact HT
    iexact Hpay
  rw [Finset.union_sdiff_of_subset hTS]
  obtain ⟨d, hd, hjd⟩ := some_late S j hSc
  iapply Hk
  isplitl [HO]; · iexact HO
  isplitl [Hat]
  · iexists S
    isplitr; · ipureintro; exact hSc
    isplitl [Hat]; · iexact Hat
    iexact HS
  ihave Hd := (fact_of c S hd) $$ HS
  iapply (crePay_get hjd); iexact Hd

/-- The last one. -/
theorem creLast {O : CellTallies nD τ sig ℕ} (hO : Above 9 O) (W : Waits sig ℕ)
    {k : PUnit → Prog (TpuEff nD τ sig (Elt F) Λ₀ .tc) PUnit} {Q : PUnit → sProp 𝕄} :
    iprop(invs X K Ks ∗ levAts L lv ∗ creSt c 3 ∗ cred (tallyAt (creCell c) 3 1) ∗ owes (c : Thread nD τ) O W)
      ⊢ iprop((∀ W' : Waits sig ℕ, (owes (c : Thread nD τ) O W' ∗ atPos ER (creCell c) 1 ∅ 0 ∗ freeFact c 3)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait creS 1) k) Q) := by
  unfold creSt
  iintro ⟨#HI, #Hlev, ⟨%T, %hT, Hat, #HT⟩, Hc, HO⟩ Hk
  iapply (Rounds.wp_wait_rest_token 𝒱₀ ER (Rd X) (c : Thread nD τ) none (κ := K (creCell c))
      (wpE_semWait_eq 𝒱₀ (c : Thread nD τ) none Set.univ) (Set.mem_univ _) 3 (O := O) (W := W) (R := 0) (m := 3) (T := T)
      (expect_cre X c).symm) $$ [Hc HO Hat]
  · isplitr; · iapply (invs_cre X c); iexact HI
    isplitl [Hc]; · iexact Hc
    isplitl [HO]; · iexact HO
    isplitr; · iapply (mayWait c _ 3 (by decide) (by rw [kind_cre]; exact hO)); iexact Hlev
    iexact Hat
  iintro ⟨HO, Hat, -, Hpay⟩
  rw [duties_cre]
  ihave Hpay := (Entails.of_eq (bigSep_congr fun d _ => payload_cre X c d)) $$ Hpay
  ihave #HS := (facts_union c T (Finset.univ \ T)) $$ [Hpay]
  · isplitr; · iexact HT
    iexact Hpay
  rw [Finset.union_sdiff_of_subset (Finset.subset_univ T)]
  iapply Hk
  isplitl [HO]; · iexact HO
  isplitl [Hat]; · iexact Hat
  ihave Hd := (fact_of c Finset.univ (Finset.mem_univ 3)) $$ HS
  iapply (crePay_get (le_refl _)); iexact Hd

end Forms

end Cert.KernelIdeal.Talk

end
-- ==== Proof.KernelIdeal.Body.lean ====
/-
  The ring's body, run on one device: both neighbours are met, the partial sums go round, then the finished chunks. It starts
  from the device's operand in its staging buffer and ends with the ring's sum in the result's, every counter back at zero and
  nothing owed.
-/
module

public import proofs.«01_k».proof.Proof.KernelIdeal.Hop

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot slotInv released readerAt writeTok)

variable {F : FTy → Type} [FloatOps F]

local notation "𝕄" => MT nD τ sig ℕ (Elt F) ℕ UU ℕ

variable (X : Dev nD → Vec F S4x512x4096 .bf16)

/-! ## Lists of resources, one by one -/

theorem two_eq (Φ : Fin 2 → sProp 𝕄) : bigSep Finset.univ Φ = iprop(Φ 0 ∗ Φ 1) := bigSep_univ_eq_bigSepL [0, 1] (by decide) (by decide) Φ
theorem four_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem range4_eq (Φ : ℕ → sProp 𝕄) : bigSep (Finset.range 4) Φ = iprop(Φ 0 ∗ Φ 1 ∗ Φ 2 ∗ Φ 3) :=
  bigSep_eq_bigSepL_of_eq [0, 1, 2, 3] (by decide) (by decide) Φ
theorem range6_eq (Φ : ℕ → sProp 𝕄) : bigSep (Finset.range 6) Φ = iprop(Φ 0 ∗ Φ 1 ∗ Φ 2 ∗ Φ 3 ∗ Φ 4 ∗ Φ 5) :=
  bigSep_eq_bigSepL_of_eq [0, 1, 2, 3, 4, 5] (by decide) (by decide) Φ

section Body

variable {K : GSem nD τ sig → ℕ} {Ks : Dev nD × Fin 4 → ℕ} (c : Dev nD)

/-! ## The buffers by chunks -/

theorem srcK_inj (t t' : Fin 4) (h : t ≠ t') : srcK c t.val ≠ srcK c t'.val := by
  have := yOf_lt c
  have := t.isLt
  have := t'.isLt
  have : t.val ≠ t'.val := fun e => h (Fin.ext e)
  unfold srcK; omega

/-- The result's buffer is its four chunks, in the order in which the device sends them. -/
theorem out_chunks (f : Vec F S4x512x4096 .bf16) :
    (outM.view.loc (c : Thread nD τ) ↦{fullShare} f : sProp 𝕄)
      = iprop(outPt c (srcK c 0) f ∗ outPt c (srcK c 1) f ∗ outPt c (srcK c 2) f ∗ outPt c (srcK c 3) f) := by
  have hu : (Finset.univ : Finset S4x512x4096.Idx) = (Finset.univ : Finset (Fin 4)).biUnion fun t => blockSet (srcK c t.val) := by
    ext i
    simp only [Finset.mem_univ, Finset.mem_biUnion, mem_blockSet, true_and, true_iff]
    have := yOf_lt c
    have hi : (i 0).val < 4 := (i 0).isLt
    refine ⟨⟨(yOf c + 4 - (i 0).val) % 4, Nat.mod_lt _ (by decide)⟩, ?_⟩
    unfold srcK; show (i 0).val = (yOf c + 8 - (yOf c + 4 - (i 0).val) % 4) % 4; omega
  show (outM.view.loc (c : Thread nD τ) ↦[(Finset.univ : Finset S4x512x4096.Idx)]{fullShare} f : sProp 𝕄) = _
  rw [hu]
  refine (pointsTo_biUnion (ℓ := outM.view.loc (c : Thread nD τ)) (q := fullShare) (f := f) Finset.univ
    (fun t : Fin 4 => (blockSet (srcK c t.val) : Finset S4x512x4096.Idx)) fun t _ t' _ h => blockSet_disjoint (srcK_inj c t t' h)).trans ?_
  rw [four_eq]; rfl

/-- The scratch is its two slots. -/
theorem com_slots (f : Vec F S2x512x4096 .bf16) :
    (comM.view.loc (c : Thread nD τ) ↦{fullShare} f : sProp 𝕄) = iprop(comPt c 0 f ∗ comPt c 1 f) := by
  have hu : (Finset.univ : Finset S2x512x4096.Idx) = (Finset.univ : Finset (Fin 2)).biUnion fun t => blockSet t.val := by
    ext i
    simp only [Finset.mem_univ, Finset.mem_biUnion, mem_blockSet, true_and, true_iff]
    exact ⟨i 0, rfl⟩
  show (comM.view.loc (c : Thread nD τ) ↦[(Finset.univ : Finset S2x512x4096.Idx)]{fullShare} f : sProp 𝕄) = _
  rw [hu]
  refine (pointsTo_biUnion (ℓ := comM.view.loc (c : Thread nD τ)) (q := fullShare) (f := f) Finset.univ
    (fun t : Fin 2 => (blockSet t.val : Finset S2x512x4096.Idx)) fun t _ t' _ h => blockSet_disjoint fun e => h (Fin.ext e)).trans ?_
  rw [two_eq]; rfl

theorem com_join (f g : Vec F S2x512x4096 .bf16) :
    (iprop(comPt c 0 f ∗ comPt c 1 g) : sProp 𝕄) ⊢ (iprop(∃ h, comM.view.loc (c : Thread nD τ) ↦{fullShare} h) : sProp 𝕄) := by
  iintro ⟨H0, H1⟩
  iexists (fun i => if (i 0).val = 0 then f i else g i : Vec F S2x512x4096 .bf16)
  rw [com_slots]
  isplitl [H0]
  · ihave H0 := (Entails.of_eq (pointsTo_congr (g := (fun i => if (i 0).val = 0 then f i else g i : Vec F S2x512x4096 .bf16))
      fun i hi => (if_pos (mem_blockSet.mp hi)).symm)) $$ H0
    iexact H0
  · ihave H1 := (Entails.of_eq (pointsTo_congr (g := (fun i => if (i 0).val = 0 then f i else g i : Vec F S2x512x4096 .bf16))
      fun i hi => (if_neg (by rw [mem_blockSet.mp hi]; decide)).symm)) $$ H1
    iexact H1

/-- The ring's result: the chunk that came in at step `2 + t` is finished, `t < 4`. -/
def Y (c : Dev nD) : Vec F S4x512x4096 .bf16 := fun i => val X (3 + (yOf c + 5 - (i 0).val) % 4) c i

theorem Y_chunk (t : ℕ) (ht : t < 4) : (outPt c (srcK c (3 + t)) (val X (3 + t) c) : sProp 𝕄) = outPt c (srcK c (3 + t)) (Y X c) :=
  pointsTo_congr fun i hi => by
    have h := mem_blockSet.mp hi
    have := yOf_lt c
    have hi4 : (i 0).val < 4 := (i 0).isLt
    unfold srcK at h
    show _ = val X (3 + (yOf c + 5 - (i 0).val) % 4) c i
    rw [show (yOf c + 5 - (i 0).val) % 4 = t by omega]

theorem out_join :
    (iprop(outPt c (srcK c 3) (val X 3 c) ∗ outPt c (srcK c 4) (val X 4 c) ∗ outPt c (srcK c 5) (val X 5 c) ∗ outPt c (srcK c 6) (val X 6 c)) : sProp 𝕄)
      ⊢ (outM.view.loc (c : Thread nD τ) ↦{fullShare} Y X c : sProp 𝕄) := by
  rw [out_chunks]
  have h0 := Y_chunk X c 0 (by decide)
  have h1 := Y_chunk X c 1 (by decide)
  have h2 := Y_chunk X c 2 (by decide)
  have h3 := Y_chunk X c 3 (by decide)
  rw [h0, h1, h2, h3, show srcK c (3 + 1) = srcK c 0 from srcK_four c (g := 0) (by decide),
    show srcK c (3 + 2) = srcK c 1 from srcK_four c (g := 1) (by decide), show srcK c (3 + 3) = srcK c 2 from srcK_four c (g := 2) (by decide)]
  iintro ⟨H3, H0, H1, H2⟩
  isplitl [H0]; · iexact H0
  isplitl [H1]; · iexact H1
  isplitl [H2]; · iexact H2
  iexact H3

/-! ## The meeting of the neighbours -/

/-- The signal to the left neighbour gives it this device's scratch. -/
theorem barSigL {n : Dev nD} (hn : n = prv c) {O : CellTallies nD τ sig ℕ} (W : Waits sig ℕ)
    {k : PUnit → Prog (TpuEff nD τ sig (Elt F) Λ₀ .tc) PUnit} {Q : PUnit → sProp 𝕄} :
    iprop(invs X K Ks ∗ owes (c : Thread nD τ) (O + tallyAt (barCell (prv c)) 0 1) W ∗ dutyTok ER (barCell (prv c)) 0 0 ∗ reached ER (barCell (prv c)) 0
        ∗ (∃ f, comPt c 0 f) ∗ (∃ f, comPt c 1 f) ∗ reached ER (recvCell c 0) 0 ∗ reached ER (recvCell c 1) 0)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) barS 1) k) Q) := by
  subst hn
  iintro ⟨#HI, HO, Ht, #Hr, H0, H1, #Hr0, #Hr1⟩ Hk
  iapply (Rounds.wp_signal 𝒱₀ ER (Rd X) (c : Thread nD τ) none (dst := (prv c : Thread nD τ)) (sem := barS) (r := 0) (d := 0) (κ := K (barCell (prv c)))
      (by rw [duties_bar]; decide) (amount_bar X (prv c) 0) 0 O rfl) $$ [HO Ht H0 H1]
  · isplitr; · iapply (invs_bar X (prv c)); iexact HI
    isplitl [HO]; · iexact HO
    isplitl [Ht]; · iexact Ht
    isplitl [H0 H1]
    · rw [payload_bar0]; unfold barPay0; rw [nxt_prv]
      isplitl [H0]; · iexact H0
      isplitl [H1]; · iexact H1
      isplitr <;> iassumption
    iexact Hr
  iexact Hk

/-- The signal to the right one tells it that this device's credit cell is open. -/
theorem barSigR {n : Dev nD} (hn : n = nxt c) {O : CellTallies nD τ sig ℕ} (W : Waits sig ℕ)
    {k : PUnit → Prog (TpuEff nD τ sig (Elt F) Λ₀ .tc) PUnit} {Q : PUnit → sProp 𝕄} :
    iprop(invs X K Ks ∗ owes (c : Thread nD τ) (O + tallyAt (barCell (nxt c)) 0 1) W ∗ dutyTok ER (barCell (nxt c)) 0 1 ∗ reached ER (barCell (nxt c)) 0
        ∗ reached ER (creCell c) 0)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) barS 1) k) Q) := by
  subst hn
  iintro ⟨#HI, HO, Ht, #Hr, #Hrc⟩ Hk
  iapply (Rounds.wp_signal 𝒱₀ ER (Rd X) (c : Thread nD τ) none (dst := (nxt c : Thread nD τ)) (sem := barS) (r := 0) (d := 1) (κ := K (barCell (nxt c)))
      (by rw [duties_bar]; decide) (amount_bar X (nxt c) 1) 0 O rfl) $$ [HO Ht]
  · isplitr; · iapply (invs_bar X (nxt c)); iexact HI
    isplitl [HO]; · iexact HO
    isplitl [Ht]; · iexact Ht
    isplitr
    · rw [payload_bar1]; unfold barPay1; rw [prv_nxt]; iexact Hrc
    iexact Hr
  iexact Hk

/-- The wait for both. -/
theorem barWait {O : CellTallies nD τ sig ℕ} (hO : Above 1 O) (W : Waits sig ℕ)
    {k : PUnit → Prog (TpuEff nD τ sig (Elt F) Λ₀ .tc) PUnit} {Q : PUnit → sProp 𝕄} :
    iprop(invs X K Ks ∗ levAts L lv ∗ atPos ER (barCell c) 0 ∅ 0 ∗ cred (tallyAt (barCell c) 0 2) ∗ owes (c : Thread nD τ) O W)
      ⊢ iprop((∀ W' : Waits sig ℕ, (owes (c : Thread nD τ) O W' ∗ atPos ER (barCell c) 1 ∅ 0 ∗ barPay0 c ∗ barPay1 c)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  iintro ⟨#HI, #Hlev, Hat, Hc, HO⟩ Hk
  iapply (Rounds.wp_wait_rest_token 𝒱₀ ER (Rd X) (c : Thread nD τ) none (κ := K (barCell c))
      (wpE_semWait_eq 𝒱₀ (c : Thread nD τ) none Set.univ) (Set.mem_univ _) 0 (O := O) (W := W) (R := 0) (m := 0) (T := ∅)
      ((Nat.zero_add _).trans (expect_bar X c).symm)) $$ [Hc HO Hat]
  · isplitr; · iapply (invs_bar X c); iexact HI
    isplitl [Hc]; · iexact Hc
    isplitl [HO]; · iexact HO
    isplitr; · iapply (mayWait c _ 0 (by decide) (by rw [kind_bar]; exact hO)); iexact Hlev
    iexact Hat
  iintro ⟨HO, Hat, -, Hpay⟩
  ihave Hpay := (Entails.of_eq (rest_bar X c)) $$ Hpay
  icases Hpay with ⟨H0, H1⟩
  iapply Hk
  isplitl [HO]; · iexact HO
  isplitl [Hat]; · iexact Hat
  isplitl [H0] <;> iassumption

/-! ## The end -/

/-- All of a device's semaphores, at zero. -/
def atZero (c : Dev nD) : sProp 𝕄 :=
  iprop(semVal (barCell c) 0 ∗ semVal (creCell c) 0 ∗ semVal (sendCell c 0) 0 ∗ semVal (sendCell c 1) 0
    ∗ semVal (recvCell c 0) 0 ∗ semVal (recvCell c 1) 0)

theorem closeAll :
    iprop(invs X K Ks ∗ atPos ER (barCell c) 1 ∅ 0 ∗ atPos ER (creCell c) 1 ∅ 0 ∗ posAt c 0 3 ∗ posAt c 1 3)
      ⊢ (|={Set.univ}=> atZero c : sProp 𝕄) := by
  unfold posAt atZero
  iintro ⟨#HI, Hb, Hc, ⟨Hs0, -, Hv0⟩, ⟨Hs1, -, Hv1⟩⟩
  imod (Rounds.cell_close ER (Rd X) (Set.mem_univ (K (barCell c))) id (done_bar X c)) $$ [Hb] with Hb
  · isplitr; · iapply (invs_bar X c); iexact HI
    iexact Hb
  imod (Rounds.cell_close ER (Rd X) (Set.mem_univ (K (creCell c))) id (done_cre X c)) $$ [Hc] with Hc
  · isplitr; · iapply (invs_cre X c); iexact HI
    iexact Hc
  imod (Rounds.cell_close ER (Rd X) (Set.mem_univ (K (sendCell c 0))) id (done_send X c 0)) $$ [Hs0] with Hs0
  · isplitr; · iapply (invs_send X c 0); iexact HI
    iexact Hs0
  imod (Rounds.cell_close ER (Rd X) (Set.mem_univ (K (sendCell c 1))) id (done_send X c 1)) $$ [Hs1] with Hs1
  · isplitr; · iapply (invs_send X c 1); iexact HI
    iexact Hs1
  imod (Rounds.cell_close ER (Rd X) (Set.mem_univ (K (recvCell c 0))) id (done_recv X c 0)) $$ [Hv0] with Hv0
  · isplitr; · iapply (invs_recv X c 0); iexact HI
    iexact Hv0
  imod (Rounds.cell_close ER (Rd X) (Set.mem_univ (K (recvCell c 1))) id (done_recv X c 1)) $$ [Hv1] with Hv1
  · isplitr; · iapply (invs_recv X c 1); iexact HI
    iexact Hv1
  imodintro
  isplitl [Hb]; · iexact Hb
  isplitl [Hc]; · iexact Hc
  isplitl [Hs0]; · iexact Hs0
  isplitl [Hs1]; · iexact Hs1
  isplitl [Hv0] <;> iassumption

theorem posAt_zero (s : Fin 2) :
    (iprop(atPos ER (sendCell c s) 0 ∅ 0 ∗ reached ER (sendCell c s) 0 ∗ atPos ER (recvCell c s) 0 ∅ 0) : sProp 𝕄) ⊢ (posAt c s 0 : sProp 𝕄) := by
  unfold posAt; exact BI.Entails.refl _

theorem freed_com (f : Vec F S2x512x4096 .bf16) : (comPt c 0 f : sProp 𝕄) ⊢ (freed (prv c, 0) : sProp 𝕄) := by
  unfold freed
  rw [if_pos rfl, nxt_prv]
  unfold slot
  iintro H
  iexists f; iexact H
theorem freed_out (i : Fin 4) (hi : i ≠ 0) (f : Vec F S4x512x4096 .bf16) :
    (outPt c (srcK c (i.val - 1)) f : sProp 𝕄) ⊢ (freed (prv c, i) : sProp 𝕄) := by
  unfold freed
  have h0 : i.val ≠ 0 := fun e => hi (Fin.ext e)
  have h4 := i.isLt
  rw [if_neg hi, nxt_prv, srcK_prv c _ (by show i.val + 2 < 6; omega),
    show srcK c (i.val + 2 + 1) = srcK c (i.val - 1) from by rw [show i.val + 2 + 1 = i.val - 1 + 4 from by omega, srcK_four c (by omega)]]
  unfold slot
  iintro H
  iexists f; iexact H
theorem taken_com : (freed (c, 0) : sProp 𝕄) ⊢ (iprop(∃ f, comPt (nxt c) 0 f) : sProp 𝕄) := by
  unfold freed
  rw [if_pos rfl]
  exact BI.Entails.refl _
theorem taken_out (i : Fin 4) (hi : i ≠ 0) : (freed (c, i) : sProp 𝕄) ⊢ (iprop(∃ f, outPt (nxt c) (srcK c (i.val + 2)) f) : sProp 𝕄) := by
  unfold freed
  rw [if_neg hi]
  exact BI.Entails.refl _
theorem fact_round (i : Fin 4) : (freeFact c i : sProp 𝕄) ⊢ (reached ER (recvCell (nxt c) (sl i.val)) (i.val / 2 + 1) : sProp 𝕄) := by
  unfold freeFact
  iintro ⟨-, H⟩
  iexact H

/-! ## The run -/

def bodyPre (K : GSem nD τ sig → ℕ) (Ks : Dev nD × Fin 4 → ℕ) (c : Dev nD) (W : Waits sig ℕ) : sProp 𝕄 :=
  iprop(opened X K Ks c ∗ creds c ∗ levAts L lv ∗ (inM.view.loc (c : Thread nD τ) ↦{fullShare} X c)
    ∗ (∃ f, outM.view.loc (c : Thread nD τ) ↦{fullShare} f) ∗ (∃ f, comM.view.loc (c : Thread nD τ) ↦{fullShare} f)
    ∗ owes (c : Thread nD τ) (O₀ c) W)
def bodyPost (c : Dev nD) : sProp 𝕄 :=
  iprop(atZero c ∗ (inM.view.loc (c : Thread nD τ) ↦{fullShare} X c)
    ∗ (outM.view.loc (c : Thread nD τ) ↦{fullShare} Y X c) ∗ (∃ f, comM.view.loc (c : Thread nD τ) ↦{fullShare} f)
    ∗ ∃ W', owes (c : Thread nD τ) 0 W')

theorem pay1_eq (f : Vec F S4x512x4096 .bf16) : k3_pay1 f = f := shapeCast_self f _

theorem zero3 : (![0, 0, 0] : Fin 3 → ℕ) = fun _ => 0 := funext fun a => by fin_cases a <;> rfl

/-- The device's operand, copied into the result's buffer. -/
theorem copyIn (f : Vec F S4x512x4096 .bf16) {inb inb' inb''} {hl hl' hx hm}
    {k : PUnit → Prog (TpuEff nD τ sig (Elt F) Λ₀ .tc) PUnit} {Q : PUnit → sProp 𝕄} :
    iprop((inM.view.loc (c : Thread nD τ) ↦{fullShare} X c) ∗ (outM.view.loc (c : Thread nD τ) ↦{fullShare} f))
      ⊢ iprop((((inM.view.loc (c : Thread nD τ) ↦{fullShare} X c) ∗ (outM.view.loc (c : Thread nD τ) ↦{fullShare} X c))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load inM (Rect.unit (s := S4x512x4096) ![0, 0, 0] S4x512x4096.size inb).toLoadRect hl) fun v =>
            .op (.load outM (Rect.unit (s := S4x512x4096) ![0, 0, 0] S4x512x4096.size inb').toLoadRect hl') fun _ =>
            .op (.store outM (Rect.unit (s := S4x512x4096) ![0, 0, 0] S4x512x4096.size inb'') (k3_pay1 v) Finset.univ hx hm) k) Q) := by
  have hr : inM.view.readAt (Elt F) (Rect.unit (s := S4x512x4096) ![0, 0, 0] S4x512x4096.size inb).toLoadRect (X c) = X c :=
    Memref.readAt_unit_zero (Elt F) cc3_stg0_0 zero3 _ _
  have hw : ∀ w, (outM.access (Rect.unit (s := S4x512x4096) ![0, 0, 0] S4x512x4096.size inb'')).write (Elt F) f w Finset.univ = w :=
    Memref.write_access_unit_zero_univ (Elt F) cc3_stg1_0 zero3 _ f
  have hs : (outM.access (Rect.unit (s := S4x512x4096) ![0, 0, 0] S4x512x4096.size inb'')).setOn Finset.univ ⊆ (Finset.univ : Finset S4x512x4096.Idx) :=
    Finset.subset_univ _
  iintro ⟨Hin, Hout⟩ Hk
  iapply (wp_load 𝒱₀ (c : Thread nD τ) none Set.univ (m := inM) (Finset.subset_univ _)) $$ Hin
  iintro Hin
  iapply (wp_load 𝒱₀ (c : Thread nD τ) none Set.univ (m := outM) (Finset.subset_univ _)) $$ Hout
  iintro Hout
  iapply (wp_store 𝒱₀ (c : Thread nD τ) none Set.univ (m := outM) (Mk := Finset.univ) hs) $$ Hout
  iintro Hout
  rw [hr, hw, pay1_eq]
  iapply Hk
  isplitl [Hin] <;> iassumption

theorem bodyRun (W : Waits sig ℕ) {h0 h1 h2} {Q : PUnit → sProp 𝕄} :
    iprop(bodyPre X K Ks c W ∗ (bodyPost X c -∗ Q ⟨⟩))
      ⊢ (wp frame (wpE (defs₀ (F := F)) 𝒱₀ (c : Thread nD τ) none) Set.univ
          (cc3__allreduce_body (F := F) inM h0 outM h1 comM h2 cc3_scratch1 cc3_scratch2 cc3_scratch3) Q : sProp 𝕄) := by
  rw [cc3__allreduce_body_eq_skeleton]
  unfold cc3__allreduce_body_skel
  simp only [k3_part13_eq_skeleton, k3_part13_skel, k3_part12_eq_skeleton, k3_part12_skel, k3_part11_eq_skeleton,
    k3_part11_skel, k3_part10_eq_skeleton, k3_part10_skel, k3_part9_eq_skeleton, k3_part9_skel, k3_part8_eq_skeleton,
    k3_part8_skel, k3_part7_eq_skeleton, k3_part7_skel, k3_part6_eq_skeleton, k3_part6_skel, k3_part5_eq_skeleton,
    k3_part5_skel, k3_part4_eq_skeleton, k3_part4_skel, k3_part3_eq_skeleton, k3_part3_skel, k3_part2_eq_skeleton,
    k3_part2_skel, k3_part1_eq_skeleton, k3_part1_skel, semSignalWord, semWaitWord, Prog.lift, Prog.bind_op, Prog.bind_ret,
    Prog.pure_eq_ret, wp_deviceId]
  unfold bodyPre opened toks creds
  simp only [two_eq, four_eq, range4_eq, range6_eq]
  iintro ⟨⟨⟨#HI, Hbar, #Hrbl, #Hrbr, ⟨Hcre, #Hrcre⟩, ⟨⟨Hs0, #Hrs0⟩, Hs1, #Hrs1⟩, ⟨⟨Hv0, #Hrv0⟩, Hv1, #Hrv1⟩,
      Htb0, Htb1, ⟨Hts0, Hts1, Hts2, Hts3, Hts4, Hts5⟩, ⟨Htr0, Htr1, Htr2, Htr3, Htr4, Htr5⟩, ⟨Htc0, Htc1, Htc2, Htc3⟩,
      ⟨Hrd0, Hrd1, Hrd2, Hrd3⟩, ⟨Hwt0, Hwt1, Hwt2, Hwt3⟩⟩,
      ⟨Hcb, ⟨Hcr0, Hcr1, Hcr2, Hcr3, Hcr4, Hcr5⟩, ⟨Hcc0, Hcc1, Hcc2, Hcc3⟩⟩, #Hlev, Hin, ⟨%f1, Hout⟩, ⟨%f2, Hcom⟩, HO⟩, Hk⟩
  iapply (copyIn X c f1) $$ [Hin Hout]
  · isplitl [Hin]; · iexact Hin
    iexact Hout
  iintro ⟨Hin, Hout⟩
  rw [wp_deviceId]
  ihave Hout := (Entails.of_eq (out_chunks c (X c))) $$ Hout
  icases Hout with ⟨Ho0, Ho1, Ho2, Ho3⟩
  ihave Hcom := (Entails.of_eq (com_slots c f2)) $$ Hcom
  icases Hcom with ⟨Hm0, Hm1⟩
  unfold O₀
  iapply (barSigL X c (dev1_eq c) (O := w0 c + tallyAt (barCell (nxt c)) 0 1) _) $$ [HO Htb0 Hm0 Hm1]
  · isplitr; · iexact HI
    isplitl [HO]; · iexact HO
    isplitl [Htb0]; · iexact Htb0
    isplitr; · iexact Hrbl
    isplitl [Hm0]; · iexists f2; iexact Hm0
    isplitl [Hm1]; · iexists f2; iexact Hm1
    isplitr; · iexact Hrv0
    iexact Hrv1
  iintro HO
  iapply (barSigR X c (dev2_eq c) (O := w0 c) _) $$ [HO Htb1]
  · isplitr; · iexact HI
    isplitl [HO]; · iexact HO
    isplitl [Htb1]; · iexact Htb1
    isplitr; · iexact Hrbr
    iexact Hrcre
  iintro HO
  iapply (barWait X c (O := w0 c) (above_w0 c (by decide)) _) $$ [Hbar Hcb HO]
  · isplitr; · iexact HI
    isplitr; · iexact Hlev
    isplitl [Hbar]; · iexact Hbar
    isplitl [Hcb]; · iexact Hcb
    iexact HO
  iintro %W1 ⟨HO, Hbar, Hp0, Hp1⟩
  unfold barPay0 barPay1
  icases Hp0 with ⟨Hd0, Hd1, #Hrn0, #Hrn1⟩
  icases Hp1 with #Hrcl
  ihave Hcre := (creSt_zero c) $$ Hcre
  ihave Hp0 := (posAt_zero c 0) $$ [Hs0 Hv0]
  · isplitl [Hs0]; · iexact Hs0
    isplitr; · iexact Hrs0
    iexact Hv0
  ihave Hp1 := (posAt_zero c 1) $$ [Hs1 Hv1]
  · isplitl [Hs1]; · iexact Hs1
    isplitr; · iexact Hrs1
    iexact Hv1
  -- step 0
  iapply (hopCom X c 0 (by decide) (dev3_eq c) (off1_0 c) rfl rfl rfl
      (O := w1 c + oC c 0) ((above_w1 c (by decide)).add (above_oC c (by decide) (by decide))) ((above_w1 c (by decide)).add (above_oC c (by decide) (by decide))) _) $$ [Ho0 Hd0 HO Hp0 Hts0 Htr0 Hcr0]
  · isplitr; · iexact HI
    isplitr; · iexact Hlev
    isplitl [Ho0]; · iexact Ho0
    isplitl [Hd0]; · iexact Hd0
    isplitl [HO]; · iexact HO
    isplitl [Hp0]; · iexact Hp0
    isplitr; · iexact Hrn0
    unfold fare
    isplitl [Hts0]; · iexact Hts0
    isplitl [Htr0]; · iexact Htr0
    iexact Hcr0
  iintro %W2 ⟨HO, Hp0, #Hro0, Ho0, Hm0⟩
  iapply (addIn X c 0 (by decide) (off2_0 c) rfl rfl) $$ [Ho1 Hm0]
  · isplitl [Ho1]; · iexact Ho1
    iexact Hm0
  iintro ⟨Ho1, Hm0⟩
  imod (freeOne X c 0) $$ [Hrd0 Hm0] with #Hfr0
  · isplitr; · iexact HI
    isplitl [Hrd0]; · iexact Hrd0
    isplitl [Hm0]; · iapply (freed_com c); iexact Hm0
    iexact Hro0
  ihave #Hcp0 := (crePay_zero (prv c)) $$ Hfr0
  iapply (creSig X c 0 (dev4_eq c) (O := w1 c) _) $$ [HO Htc0]
  · isplitr; · iexact HI
    isplitl [HO]; · iexact HO
    isplitl [Htc0]; · iexact Htc0
    isplitr; · iexact Hrcl
    iexact Hcp0
  iintro HO
  -- step 1
  iapply (hopCom X c 1 (by decide) (dev5_eq c) (off1_1 c) rfl rfl rfl
      (O := w2 c + oC c 1) ((above_w2 c (by decide)).add (above_oC c (by decide) (by decide))) ((above_w2 c (by decide)).add (above_oC c (by decide) (by decide))) _) $$ [Ho1 Hd1 HO Hp1 Hts1 Htr1 Hcr1]
  · isplitr; · iexact HI
    isplitr; · iexact Hlev
    isplitl [Ho1]; · iexact Ho1
    isplitl [Hd1]; · iexact Hd1
    isplitl [HO]; · iexact HO
    isplitl [Hp1]; · iexact Hp1
    isplitr; · iexact Hrn1
    unfold fare
    isplitl [Hts1]; · iexact Hts1
    isplitl [Htr1]; · iexact Htr1
    iexact Hcr1
  iintro %W3 ⟨HO, Hp1, #Hro1, Ho1, Hm1⟩
  iapply (addIn X c 1 (by decide) (off2_1 c) rfl rfl) $$ [Ho2 Hm1]
  · isplitl [Ho2]; · iexact Ho2
    iexact Hm1
  iintro ⟨Ho2, Hm1⟩
  imod (freeOne X c 1) $$ [Hrd1 Ho0] with #Hfr1
  · isplitr; · iexact HI
    isplitl [Hrd1]; · iexact Hrd1
    isplitl [Ho0]; · iapply (freed_out c 1 (by decide)); iexact Ho0
    iexact Hro1
  ihave #Hcp1 := (crePay_next (prv c) 0 1 rfl) $$ []
  · isplitr; · iexact Hfr1
    iexact Hcp0
  iapply (creSig X c 1 (dev6_eq c) (O := w2 c) _) $$ [HO Htc1]
  · isplitr; · iexact HI
    isplitl [HO]; · iexact HO
    isplitl [Htc1]; · iexact Htc1
    isplitr; · iexact Hrcl
    iexact Hcp1
  iintro HO
  iapply (creWait X c 0 (by decide) (O := w2 c) (above_w2 c (by decide)) _) $$ [Hcre Hcc0 HO]
  · isplitr; · iexact HI
    isplitr; · iexact Hlev
    isplitl [Hcre]; · iexact Hcre
    isplitl [Hcc0]; · iexact Hcc0
    iexact HO
  iintro %V0 ⟨HO, Hcre, #Hff0⟩
  imod (takeOne X c 0) $$ [Hwt0] with Hd2
  · isplitr; · iexact HI
    isplitr; · iexact Hff0
    iexact Hwt0
  ihave Hd2 := (taken_com c) $$ Hd2
  ihave #Hrn2 := (fact_round c 0) $$ Hff0
  -- step 2
  iapply (hopCom X c 2 (by decide) (dev7_eq c) (off1_2 c) rfl rfl rfl
      (O := w3 c + oC c 2) ((above_w3 c (by decide)).add (above_oC c (by decide) (by decide))) ((above_w3 c (by decide)).add (above_oC c (by decide) (by decide))) _) $$ [Ho2 Hd2 HO Hp0 Hts2 Htr2 Hcr2]
  · isplitr; · iexact HI
    isplitr; · iexact Hlev
    isplitl [Ho2]; · iexact Ho2
    isplitl [Hd2]; · iexact Hd2
    isplitl [HO]; · iexact HO
    isplitl [Hp0]; · iexact Hp0
    isplitr; · iexact Hrn2
    unfold fare
    isplitl [Hts2]; · iexact Hts2
    isplitl [Htr2]; · iexact Htr2
    iexact Hcr2
  iintro %W4 ⟨HO, Hp0, #Hro2, Ho2, Hm0⟩
  iapply (addIn X c 2 (by decide) (off2_2 c) rfl rfl) $$ [Ho3 Hm0]
  · isplitl [Ho3]; · iexact Ho3
    iexact Hm0
  iintro ⟨Ho3, Hm0⟩
  imod (freeOne X c 2) $$ [Hrd2 Ho1] with #Hfr2
  · isplitr; · iexact HI
    isplitl [Hrd2]; · iexact Hrd2
    isplitl [Ho1]; · iapply (freed_out c 2 (by decide)); iexact Ho1
    iexact Hro2
  ihave #Hcp2 := (crePay_next (prv c) 1 2 rfl) $$ []
  · isplitr; · iexact Hfr2
    iexact Hcp1
  iapply (creSig X c 2 (dev8_eq c) (O := w3 c) _) $$ [HO Htc2]
  · isplitr; · iexact HI
    isplitl [HO]; · iexact HO
    isplitl [Htc2]; · iexact Htc2
    isplitr; · iexact Hrcl
    iexact Hcp2
  iintro HO
  iapply (creWait X c 1 (by decide) (O := w3 c) (above_w3 c (by decide)) _) $$ [Hcre Hcc1 HO]
  · isplitr; · iexact HI
    isplitr; · iexact Hlev
    isplitl [Hcre]; · iexact Hcre
    isplitl [Hcc1]; · iexact Hcc1
    iexact HO
  iintro %V1 ⟨HO, Hcre, #Hff1⟩
  imod (takeOne X c 1) $$ [Hwt1] with Hd3
  · isplitr; · iexact HI
    isplitr; · iexact Hff1
    iexact Hwt1
  ihave Hd3 := (taken_out c 1 (by decide)) $$ Hd3
  ihave #Hrn3 := (fact_round c 1) $$ Hff1
  -- step 3
  iapply (hopOut X c 3 (by decide) (by decide) (dev9_eq c) (off3_0 c) rfl rfl
      (O := w4 c + oC c 3) ((above_w4 c (by decide)).add (above_oC c (by decide) (by decide))) ((above_w4 c (by decide)).add (above_oC c (by decide) (by decide))) _) $$ [Ho3 Hd3 HO Hp1 Hts3 Htr3 Hcr3]
  · isplitr; · iexact HI
    isplitr; · iexact Hlev
    isplitl [Ho3]; · iexact Ho3
    isplitl [Hd3]; · iexact Hd3
    isplitl [HO]; · iexact HO
    isplitl [Hp1]; · iexact Hp1
    isplitr; · iexact Hrn3
    unfold fare
    isplitl [Hts3]; · iexact Hts3
    isplitl [Htr3]; · iexact Htr3
    iexact Hcr3
  iintro %W5 ⟨HO, Hp1, #Hro3, Ho3, Ho4⟩
  imod (freeOne X c 3) $$ [Hrd3 Ho2] with #Hfr3
  · isplitr; · iexact HI
    isplitl [Hrd3]; · iexact Hrd3
    isplitl [Ho2]; · iapply (freed_out c 3 (by decide)); iexact Ho2
    iexact Hro3
  ihave #Hcp3 := (crePay_next (prv c) 2 3 rfl) $$ []
  · isplitr; · iexact Hfr3
    iexact Hcp2
  iapply (creSig X c 3 (dev10_eq c) (O := w4 c) _) $$ [HO Htc3]
  · isplitr; · iexact HI
    isplitl [HO]; · iexact HO
    isplitl [Htc3]; · iexact Htc3
    isplitr; · iexact Hrcl
    iexact Hcp3
  iintro HO
  iapply (creWait X c 2 (by decide) (O := w4 c) (above_w4 c (by decide)) _) $$ [Hcre Hcc2 HO]
  · isplitr; · iexact HI
    isplitr; · iexact Hlev
    isplitl [Hcre]; · iexact Hcre
    isplitl [Hcc2]; · iexact Hcc2
    iexact HO
  iintro %V2 ⟨HO, Hcre, #Hff2⟩
  imod (takeOne X c 2) $$ [Hwt2] with Hd4
  · isplitr; · iexact HI
    isplitr; · iexact Hff2
    iexact Hwt2
  ihave Hd4 := (taken_out c 2 (by decide)) $$ Hd4
  ihave #Hrn4 := (fact_round c 2) $$ Hff2
  -- step 4
  iapply (hopOut X c 4 (by decide) (by decide) (dev11_eq c) (off3_1 c) rfl rfl
      (O := w5 c) (above_w5 c (by decide)) (above_w5 c (by decide)) _) $$ [Ho4 Hd4 HO Hp0 Hts4 Htr4 Hcr4]
  · isplitr; · iexact HI
    isplitr; · iexact Hlev
    isplitl [Ho4]; · iexact Ho4
    isplitl [Hd4]; · iexact Hd4
    isplitl [HO]; · iexact HO
    isplitl [Hp0]; · iexact Hp0
    isplitr; · iexact Hrn4
    unfold fare
    isplitl [Hts4]; · iexact Hts4
    isplitl [Htr4]; · iexact Htr4
    iexact Hcr4
  iintro %W6 ⟨HO, Hp0, #Hro4, Ho4, Ho5⟩
  iapply (creLast X c (O := w5 c) (above_w5 c (by decide)) _) $$ [Hcre Hcc3 HO]
  · isplitr; · iexact HI
    isplitr; · iexact Hlev
    isplitl [Hcre]; · iexact Hcre
    isplitl [Hcc3]; · iexact Hcc3
    iexact HO
  iintro %V3 ⟨HO, Hcre, #Hff3⟩
  imod (takeOne X c 3) $$ [Hwt3] with Hd5
  · isplitr; · iexact HI
    isplitr; · iexact Hff3
    iexact Hwt3
  ihave Hd5 := (taken_out c 3 (by decide)) $$ Hd5
  ihave #Hrn5 := (fact_round c 3) $$ Hff3
  -- step 5
  iapply (hopOut X c 5 (by decide) (by decide) (dev12_eq c) (off3_2 c) rfl rfl
      (O := 0) (above_zero _) (above_zero _) _) $$ [Ho5 Hd5 HO Hp1 Hts5 Htr5 Hcr5]
  · isplitr; · iexact HI
    isplitr; · iexact Hlev
    isplitl [Ho5]; · iexact Ho5
    isplitl [Hd5]; · iexact Hd5
    isplitl [HO]; · iexact HO
    isplitl [Hp1]; · iexact Hp1
    isplitr; · iexact Hrn5
    unfold fare
    isplitl [Hts5]; · iexact Hts5
    isplitl [Htr5]; · iexact Htr5
    iexact Hcr5
  iintro %W7 ⟨HO, Hp1, #Hro5, Ho5, Ho6⟩
  imod (closeAll X c) $$ [Hbar Hcre Hp0 Hp1] with Hz
  · isplitr; · iexact HI
    isplitl [Hbar]; · iexact Hbar
    isplitl [Hcre]; · iexact Hcre
    isplitl [Hp0]; · iexact Hp0
    iexact Hp1
  rw [wp_ret]
  imodintro
  iapply Hk
  unfold bodyPost
  isplitl [Hz]; · iexact Hz
  isplitl [Hin]; · iexact Hin
  isplitl [Ho3 Ho4 Ho5 Ho6]
  · iapply (out_join X c)
    isplitl [Ho3]; · iexact Ho3
    isplitl [Ho4]; · iexact Ho4
    isplitl [Ho5]; · iexact Ho5
    iexact Ho6
  isplitl [Hm0 Hm1]
  · iapply (com_join c)
    isplitl [Hm0]; · iexact Hm0
    iexact Hm1
  iexists _
  iexact HO

end Body
end Cert.KernelIdeal.Talk
end
-- ==== Proof.KernelIdeal.Region.lean ====
/-
  The ring call's data: entered with its operand and the copy of it in place of the result, left with the ring's sum in the
  result. Its own semaphores' cells open at the entry and are closed by the body.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.ValueKit
public import Idealize.ShloMosaic.Lib.StableHlo

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueKit (rect_emb_unit_val)

variable {F : FTy → Type} [FloatOps F]

local notation "𝕄" => MT nD τ sig ℕ (Elt F) ℕ UU ℕ

-- What the buffers hold at the region's entry.
variable (V : Dev nD → Valuation τ sig (Elt F))

/-- Each device's operand. -/
abbrev opd (c : Dev nD) : Vec F S4x512x4096 .bf16 := V c (Proc.devRef .tc main_v6)

/-- What the buffers hold after it. -/
abbrev VOut (c : Dev nD) : Valuation τ sig (Elt F) := Function.update (V c) (Proc.devRef .tc main_v7) (Y (opd V) c)

theorem VOut_v6 (c : Dev nD) : VOut V c (Proc.devRef .tc main_v6) = opd V c := Function.update_of_ne (by decide) _ _
theorem VOut_v7 (c : Dev nD) : VOut V c (Proc.devRef .tc main_v7) = Y (opd V) c := Function.update_self _ _ _

/-! ## The region's data -/

/-- The core's own semaphores: the credits, the sends, the receives. -/
abbrev osem : Fin 5 → SemLoc sig := fun
  | 0 => .reg creS | 1 => .dma (sendQ 0) | 2 => .dma (sendQ 1) | 3 => .dma (recvQ 0) | 4 => .dma (recvQ 1)

/-- What enters the region beside the buffers, what the body starts from, what the body leaves. -/
def Tk (c : Dev nD) : sProp 𝕄 := iprop((∃ K Ks, ghost (opd V) K Ks c) ∗ creds c)
def Xk (c : Dev nD) : sProp 𝕄 := iprop((∃ K Ks, opened (opd V) K Ks c) ∗ creds c ∗ levAts L lv)
def scr (c : Dev nD) : sProp 𝕄 := iprop(∃ f : Buf (Elt F) ((c : Thread nD τ).loc cc3_scratch0), ((c : Thread nD τ).loc cc3_scratch0) ↦{fullShare} f)

/-- The scoped buffers of the other calls. -/
def othr (c : Dev nD) : sProp 𝕄 := Pipeline.scopedRestBut (Val := Elt F) spec3 c [cc3_scratch0]

def dat3 (c : Dev nD) : Dat τ (Elt F) ℕ ℕ UU ℕ cfg3 c where
  A w := V c (Proc.devRef .tc (Pipeline.arrRef spec3 w))
  after w _ := match w with
    | ⟨0, _⟩ => opd V c
    | ⟨1, _⟩ => Y (opd V) c
  Φ t := if t.val = 0 then iprop(Xk V c ∗ (scr c ∗ othr c) ∗ ∃ r, prngReg c r) else iprop(atZero c ∗ (scr c ∗ othr c) ∗ ∃ r, prngReg c r)
  q _ := fullShare
  owed t := if t.val = 0 then O₀ c else 0

theorem owed_zero (c : Dev nD) : (dat3 V c).owed 0 = O₀ c := by
  show (if ((0 : Fin (cfg3.N + 1)).val = 0) then O₀ c else 0) = O₀ c; exact if_pos rfl
theorem owed_first (c : Dev nD) : (dat3 V c).owed t3_0.castSucc = O₀ c := by
  show (if (t3_0.castSucc : Fin (cfg3.N + 1)).val = 0 then O₀ c else 0) = O₀ c; exact if_pos rfl
theorem owed_last (c : Dev nD) : (dat3 V c).owed (Fin.last _) = 0 := by
  show (if (Fin.last cfg3.N).val = 0 then O₀ c else 0) = 0
  rw [Fin.val_last, if_neg (by rw [show cfg3.N = 1 from N_3]; decide)]
theorem owed_succ (c : Dev nD) : (dat3 V c).owed t3_0.succ = 0 := by
  show (if (t3_0.succ : Fin (cfg3.N + 1)).val = 0 then O₀ c else 0) = 0; exact if_neg (by decide)

theorem owesAt_in {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    iprop(∃ W, owes (c : Thread nD τ) O W) ⊢ (dat.owesAt 0 t : sProp 𝕄) := by
  unfold Dat.owesAt Pipeline.owesWithin Dat.bound; rw [h0, hr]
  iintro ⟨%W, HO⟩; iexists W; isplitr; · ipureintro; exact fun _ _ => Or.inl trivial
  iexact HO
theorem owesAt_out {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Dat.owesAt Pipeline.owesWithin; rw [h0]
  iintro ⟨%W, -, HO⟩; iexists W; iexact HO

/-! ## The staged blocks are the whole arrays -/

/-- The first window's block, read off the array. -/
theorem read_in (c : Dev nD) (t : Fin cfg3.N) :
    ((cfg3.win 0).blk t).view.read (Elt F) ((dat3 V c).A 0) = opd V c := by
  funext y
  show opd V c (((cfg3.win 0).blk t).view.emb y) = opd V c y
  congr 1
  funext a; apply Fin.ext
  refine (rect_emb_unit_val _ _ _ y a).trans ?_
  show 0 * _ + _ = _
  omega

theorem before_in (c : Dev nD) (d : (cfg3.win 0).block.Idx → Elt F (cfg3.win 0).elt) :
    (dat3 V c).before 0 t3_0 d = opd V c := by
  unfold Pipeline.Dat.before; rw [if_pos (fetch3_0 _)]
  exact read_in V c t3_0

theorem arr_out (c : Dev nD) : (dat3 V c).arrAt 1 cfg3.N = Y (opd V) c := by
  refine (dat3 V c).arrAt_eq_of_covers 1 (Y (opd V) c) (by decide +kernel) fun t _ y => ?_
  show Y (opd V) c y = Y (opd V) c _
  congr 1
  funext a; apply Fin.ext
  refine Eq.symm ((rect_emb_unit_val _ _ _ y a).trans ?_)
  show 0 * _ + _ = _
  omega

/-! ## The body -/

theorem owns_whole (c : Dev nD) (b : Ref sig .tc) (f : b.ty.Contents (Elt F)) :
    (owns (Ix := ℕ) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

theorem body (c : Dev nD) : BodyObligation (dat3 V c) (defs₀ (F := F)) 𝒱₀ 0 Set.univ := fun t => by
  obtain rfl := fin_N3 t
  rw [bigSep_W3, bigSep_W3]
  simp only [owns_whole]
  rw [show (dat3 V c).Φ t3_0.castSucc = iprop(Xk V c ∗ (scr c ∗ othr c) ∗ ∃ r, prngReg c r) from rfl,
    show (dat3 V c).Φ t3_0.succ = iprop(atZero c ∗ (scr c ∗ othr c) ∗ ∃ r, prngReg c r) from rfl]
  unfold Xk scr
  iintro ⟨⟨⟨⟨%K, %Ks, Hg⟩, Hcr, Hlev⟩, ⟨Hs, Hoth⟩, Hreg⟩, HO, ⟨%d0, %f0, %hf0, H0⟩, ⟨%d1, %f1, %hf1, H1⟩⟩
  rw [before_in] at hf0
  subst hf0
  ihave HO := (owesAt_out (dat3 V c) _ (O₀ c) (owed_first V c)) $$ HO
  icases HO with ⟨%W, HO⟩
  iapply (bodyRun (opd V) c W)
  isplitl [Hg Hcr Hlev Hs HO H0 H1]
  · unfold bodyPre
    isplitl [Hg]; · iexact Hg
    isplitl [Hcr]; · iexact Hcr
    isplitl [Hlev]; · iexact Hlev
    isplitl [H0]; · iexact H0
    isplitl [H1]; · iexists f1; iexact H1
    isplitl [Hs]; · iexact Hs
    iexact HO
  unfold bodyPost
  iintro ⟨Hz, H0, H1, Hs, HO⟩
  isplitl [Hz Hs Hoth Hreg]
  · isplitl [Hz]; · iexact Hz
    isplitl [Hs Hoth]; · isplitl [Hs] <;> iassumption
    iexact Hreg
  isplitl [HO]; · iapply (owesAt_in (dat3 V c) t3_0.succ 0 (owed_succ V c) rfl); iexact HO
  isplitl [H0]
  · iexists _; isplitr; swap; (· iexact H0); ipureintro; rfl
  iexists _; isplitr; swap; (· iexact H1); ipureintro; rfl

/-! ## The record -/

theorem ownSems_eq (c : Dev nD) : (Pipeline.ownSems0 osem c : sProp 𝕄)
    = iprop(semVal (creCell c) 0 ∗ semVal (sendCell c 0) 0 ∗ semVal (sendCell c 1) 0 ∗ semVal (recvCell c 0) 0 ∗ semVal (recvCell c 1) 0) :=
  bigSep_univ_eq_bigSepL [(0 : Fin 5), 1, 2, 3, 4] (by decide) (by decide) (fun k : Fin 5 => (semVal ((c : Thread nD τ), osem k) 0 : sProp 𝕄))

/-- One of the core's cells opens, its counter given to it. -/
theorem openOne (X : Dev nD → Vec F S4x512x4096 .bf16) {K : GSem nD τ sig → ℕ} (g : GSem nD τ sig) :
    iprop(cellInv ER (Rd X) (K g) g ∗ openTok ER g ∗ semVal g 0)
      ⊢ (|={Set.univ}=> iprop(atPos ER g 0 ∅ 0 ∗ reached ER g 0) : sProp 𝕄) := by
  iintro ⟨#HI, Ho, Hv⟩
  imod (Rounds.cell_open ER (Rd X) (g := g) (Set.mem_univ (K g))) $$ [Ho Hv] with ⟨Hat, #Hr⟩
  · isplitr; · iexact HI
    isplitl [Ho] <;> iassumption
  imodintro
  isplitl [Hat]; · iexact Hat
  iexact Hr

theorem hopen (c : Dev nD) : iprop(Tk V c ∗ Pipeline.ownSems0 osem c ∗ levAts L lv) ⊢ (|={Set.univ}=> Xk V c : sProp 𝕄) := by
  rw [ownSems_eq]
  unfold Tk Xk
  iintro ⟨⟨⟨%K, %Ks, Hg⟩, Hcr⟩, ⟨Hv0, Hv1, Hv2, Hv3, Hv4⟩, #Hlev⟩
  unfold ghost
  simp only [two_eq]
  icases Hg with ⟨#HI, Hbar, #Hl, #Hr, Ho0, ⟨Ho1, Ho2⟩, ⟨Ho3, Ho4⟩, Ht⟩
  imod (openOne (opd V) (K := K) (creCell c)) $$ [Ho0 Hv0] with H0
  · isplitr; · iapply (invs_cre (opd V) c); iexact HI
    isplitl [Ho0] <;> iassumption
  imod (openOne (opd V) (K := K) (sendCell c 0)) $$ [Ho1 Hv1] with H1
  · isplitr; · iapply (invs_send (opd V) c 0); iexact HI
    isplitl [Ho1] <;> iassumption
  imod (openOne (opd V) (K := K) (sendCell c 1)) $$ [Ho2 Hv2] with H2
  · isplitr; · iapply (invs_send (opd V) c 1); iexact HI
    isplitl [Ho2] <;> iassumption
  imod (openOne (opd V) (K := K) (recvCell c 0)) $$ [Ho3 Hv3] with H3
  · isplitr; · iapply (invs_recv (opd V) c 0); iexact HI
    isplitl [Ho3] <;> iassumption
  imod (openOne (opd V) (K := K) (recvCell c 1)) $$ [Ho4 Hv4] with H4
  · isplitr; · iapply (invs_recv (opd V) c 1); iexact HI
    isplitl [Ho4] <;> iassumption
  imodintro
  isplitl [Hbar Ht H0 H1 H2 H3 H4]
  · iexists K; iexists Ks; unfold opened
    simp only [two_eq]
    isplitr; · iexact HI
    isplitl [Hbar]; · iexact Hbar
    isplitr; · iexact Hl
    isplitr; · iexact Hr
    isplitl [H0]; · iexact H0
    isplitl [H1 H2]; · isplitl [H1] <;> iassumption
    isplitl [H3 H4]; · isplitl [H3] <;> iassumption
    iexact Ht
  isplitl [Hcr]; · iexact Hcr
  iexact Hlev

theorem kind_stage : ∀ (w : Fin 2) (s : Fin (spec3 w).nbuf), kindOf (.dma ((spec3 w).sem s)) = .other := by decide +kernel

theorem above_O₀ (c : Dev nD) : Above 0 (O₀ c) :=
  ((above_w0 c (by decide)).add (above_at _ _ _ _ (by decide) (by rw [kind_bar]; decide))).add
    (above_at _ _ _ _ (by decide) (by rw [kind_bar]; decide))

theorem cutD (c : Dev nD) (t : Fin (cfg3.N + 1)) (g : GSem nD τ sig) (i : ℕ)
    (h : 0 < (dat3 V c).owed t g i) : i ∈ L g ∧ (0 : ℕ) < lv g i := by
  have e : (dat3 V c).owed t = if t.val = 0 then O₀ c else 0 := rfl
  rw [e] at h
  split at h
  · exact above_O₀ c g i h
  · exact absurd h (Nat.lt_irrefl 0)

theorem scopedRest_eq (c : Dev nD) :
    (Pipeline.scopedRest (Ix := ℕ) (Name := ℕ) (U := UU) (Lvl := ℕ) (Val := Elt F) spec3 c : sProp 𝕄) = iprop(scr c ∗ othr c) :=
  scopedRest3_split c

theorem held_none (c : Dev nD) (W : Valuation τ sig (Elt F)) : (StableHlo.held (c.tc : Thread nD τ) ∅ W : sProp 𝕄) = BI.emp := BI.bigSep_empty

theorem hin (c : Dev nD) : iprop(Pipeline.scopedRest spec3 c ∗ (∃ r, prngReg c r)
      ∗ StableHlo.held (c.tc : Thread nD τ) ∅ (V c) ∗ Xk V c) ⊢ ((dat3 V c).Φ 0 : sProp 𝕄) := by
  rw [show (dat3 V c).Φ 0 = iprop(Xk V c ∗ (scr c ∗ othr c) ∗ ∃ r, prngReg c r) from rfl, scopedRest_eq]
  iintro ⟨Hs, Hp, -, HX⟩
  isplitl [HX]; · iexact HX
  isplitl [Hs]; · iexact Hs
  iexact Hp

theorem hout (c : Dev nD) : ((dat3 V c).Φ (Fin.last cfg3.N) : sProp 𝕄)
    ⊢ iprop(Pipeline.scopedRest spec3 c ∗ (∃ r, prngReg c r)
      ∗ StableHlo.held (c.tc : Thread nD τ) ∅ (VOut V c) ∗ Pipeline.ownSems0 osem c ∗ semVal (barCell c) 0) := by
  rw [show (dat3 V c).Φ (Fin.last _) = iprop(atZero c ∗ (scr c ∗ othr c) ∗ ∃ r, prngReg c r) from rfl, scopedRest_eq, ownSems_eq, held_none]
  unfold atZero
  iintro ⟨⟨Hb, Hc, Hs0, Hs1, Hv0, Hv1⟩, Hs, Hp⟩
  isplitl [Hs]; · iexact Hs
  isplitl [Hp]; · iexact Hp
  isplitr; · iempintro
  isplitl [Hc Hs0 Hs1 Hv0 Hv1]
  · isplitl [Hc]; · iexact Hc
    isplitl [Hs0]; · iexact Hs0
    isplitl [Hs1]; · iexact Hs1
    isplitl [Hv0] <;> iassumption
  iexact Hb

theorem atEntry (c : Dev nD) (w : Fin 2) : (dat3 V c).arrAt w 0 = V c (Proc.devRef .tc (Pipeline.arrRef spec3 w)) := rfl
theorem atExit (c : Dev nD) : ∀ w : Fin 2, (dat3 V c).arrAt w cfg3.N = VOut V c (Proc.devRef .tc (Pipeline.arrRef spec3 w))
  | 0 => ((dat3 V c).arrAt_in 0 rfl _).trans (VOut_v6 V c).symm
  | 1 => (arr_out V c).trans (VOut_v7 V c).symm

end Cert.KernelIdeal.Talk

end
-- ==== Proof.KernelIdeal.Launch.lean ====
/-
  What the launch hands out: the tokens, credits and rights on slots dealt round the ring.
-/
module

public import proofs.«01_k».proof.Proof.KernelIdeal.Region
public import Idealize.ShloMosaic.Harness.Basic

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot slotInv released readerAt writeTok)

variable {F : FTy → Type} [FloatOps F]

local notation "𝕄" => MT nD τ sig ℕ (Elt F) ℕ UU ℕ

/-! ## Credits: what the devices owe a device, cell by cell, is what it waits with -/

/-- All that is owed to one device. -/
def due (c : Dev nD) : CellTallies nD τ sig ℕ :=
  0 + tallyAt (recvCell c (sl 5)) 5 N + tallyAt (recvCell c (sl 4)) 4 N
    + tallyAt (creCell c) 3 1 + tallyAt (recvCell c (sl 3)) 3 N + tallyAt (creCell c) 2 1 + tallyAt (recvCell c (sl 2)) 2 N
    + tallyAt (creCell c) 1 1 + tallyAt (recvCell c (sl 1)) 1 N + tallyAt (creCell c) 0 1 + tallyAt (recvCell c (sl 0)) 0 N
    + tallyAt (barCell c) 0 1 + tallyAt (barCell c) 0 1

/-- A debt that every device has towards its neighbour, summed over the devices, is one debt on each device. -/
theorem sum_around (e : Dev nD ≃ Dev nD) (q sm : SemLoc sig) (k n i : ℕ) (c : Dev nD) :
    ∑ d : Dev nD, (tallyAt (((e d : Dev nD) : Thread nD τ), q) k n : CellTallies nD τ sig ℕ) ((c : Thread nD τ), sm) i
      = (tallyAt ((c : Thread nD τ), q) k n : CellTallies nD τ sig ℕ) ((c : Thread nD τ), sm) i := by
  rw [Equiv.sum_comp e fun d => (tallyAt ((d : Thread nD τ), q) k n : CellTallies nD τ sig ℕ) ((c : Thread nD τ), sm) i]
  refine Finset.sum_eq_single c (fun d _ hd => ?_) (fun h => absurd (Finset.mem_univ c) h)
  rw [tallyAt_ne_cell (fun h => hd (congrArg (fun g : GSem nD τ sig => g.1.1) h).symm), Finsupp.zero_apply]

theorem owed_due (c : Dev nD) (sm : SemLoc sig) :
    launchCredit (Pipeline.owing O₀) 0 ((c : Thread nD τ), sm) = due c ((c : Thread nD τ), sm) := by
  refine Finsupp.ext fun i => ?_
  rw [Pipeline.launchCredit_owing]
  unfold O₀ due
  simp only [Pi.add_apply, Finsupp.add_apply, Pi.zero_apply, Finsupp.zero_apply, Finset.sum_add_distrib, Finset.sum_const_zero]
  have hN (q : SemLoc sig) (k n : ℕ) := sum_around ring q sm k n i c
  have hP (q : SemLoc sig) (k n : ℕ) := sum_around gnir q sm k n i c
  change ∀ q k n, ∑ d : Dev nD, (tallyAt (((nxt d : Dev nD) : Thread nD τ), q) k n : CellTallies nD τ sig ℕ) ((c : Thread nD τ), sm) i = _ at hN
  change ∀ q k n, ∑ d : Dev nD, (tallyAt (((prv d : Dev nD) : Thread nD τ), q) k n : CellTallies nD τ sig ℕ) ((c : Thread nD τ), sm) i = _ at hP
  simp only [hN, hP]

/-- A tally on one device's cells only. -/
def Mine (c : Dev nD) (A : CellTallies nD τ sig ℕ) : Prop := ∀ g : GSem nD τ sig, g.1 ≠ (c : Thread nD τ) → A g = 0

theorem Mine.add {c : Dev nD} {A B : CellTallies nD τ sig ℕ} (hA : Mine c A) (hB : Mine c B) : Mine c (A + B) := fun g hg => by
  rw [Pi.add_apply, hA g hg, hB g hg, add_zero]
theorem mine_at (c : Dev nD) (q : SemLoc sig) (k n : ℕ) : Mine c (tallyAt ((c : Thread nD τ), q) k n) := fun g hg =>
  tallyAt_ne_cell (fun h => hg (congrArg Prod.fst h)) _ _

theorem mine_due (c : Dev nD) : Mine c (due c) := by
  unfold due
  repeat' apply Mine.add
  all_goals first | exact mine_at c _ _ _ | exact fun _ _ => rfl

/-- Such a tally is the sum of its cells. -/
theorem mine_sum {c : Dev nD} {A : CellTallies nD τ sig ℕ} (hA : Mine c A) :
    ∑ sm : SemLoc sig, tallyOn ((c : Thread nD τ), sm) (A ((c : Thread nD τ), sm)) = A := by
  funext g
  rw [Finset.sum_apply]
  by_cases hg : g.1 = (c : Thread nD τ)
  · obtain ⟨t, sm⟩ := g
    obtain rfl : t = (c : Thread nD τ) := hg
    refine (Finset.sum_eq_single sm (fun s _ hs => ?_) (fun h => absurd (Finset.mem_univ sm) h)).trans (tallyOn_self _ _)
    exact tallyOn_ne (fun h => hs (congrArg Prod.snd h).symm) _
  · rw [hA g hg]
    exact Finset.sum_eq_zero fun s _ => tallyOn_ne (fun h => hg (congrArg Prod.fst h)) _

theorem cred_split (A B : CellTallies nD τ sig ℕ) : (cred (A + B) : sProp 𝕄) = iprop(cred A ∗ cred B) :=
  BI.Entails.antisymm (cred_add _ _).1 (cred_add _ _).2

theorem cred_total {I : Type} [DecidableEq I] (s : Finset I) (A : I → CellTallies nD τ sig ℕ) :
    (cred (∑ i ∈ s, A i) : sProp 𝕄) = bigSep s fun i => cred (A i) := by
  induction s using Finset.induction_on with
  | empty => rw [Finset.sum_empty, cred_zero, BI.bigSep_empty]; rfl
  | insert i s hi ih => rw [Finset.sum_insert hi, BI.bigSep_insert hi, cred_split, ih]; rfl

theorem launch_due (c : Dev nD) : (Pipeline.launchCred O₀ c : sProp 𝕄) = cred (due c) := by
  unfold Pipeline.launchCred
  simp only [owed_due]
  rw [← cred_total, mine_sum (mine_due c)]

theorem launch_creds (c : Dev nD) : (Pipeline.launchCred O₀ c : sProp 𝕄) ⊢ (creds c : sProp 𝕄) := by
  rw [launch_due]
  unfold due creds
  rw [add_assoc, tallyAt_add]
  simp only [range4_eq, range6_eq, cred_split]
  iintro ⟨⟨⟨⟨⟨⟨⟨⟨⟨⟨⟨-, R5⟩, R4⟩, C3⟩, R3⟩, C2⟩, R2⟩, C1⟩, R1⟩, C0⟩, R0⟩, B⟩
  isplitl [B]; · iexact B
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [C0]; · iexact C0
  isplitl [C1]; · iexact C1
  isplitl [C2]; · iexact C2
  iexact C3

/-! ## Cells and tokens at launch -/

theorem osem_inj : Function.Injective osem := by decide +kernel
theorem osem_ne_bar : ∀ k : Fin 5, osem k ≠ .reg barS := by decide +kernel

def barEmb : Dev nD ↪ GSem nD τ sig := ⟨fun c => barCell c, fun _ _ h => congrArg (fun g : GSem nD τ sig => g.1.1) h⟩
def scEmb : Dev nD × Fin 5 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier's cells, with their counters; the kernel's own, which open only when it is entered. -/
abbrev barCells : Finset (GSem nD τ sig) := Finset.univ.map barEmb
abbrev scCells : Finset (GSem nD τ sig) := Finset.univ.map scEmb

/-- A cell's duties, by the semaphore, the round and the number of each. -/
abbrev duty : Fin 18 → SemLoc sig × ℕ × Fin 4 := ![
  (.reg barS, 0, 0), (.reg barS, 0, 1), (.dma (sendQ 0), 0, 0), (.dma (sendQ 1), 0, 0), (.dma (sendQ 0), 1, 0), (.dma (sendQ 1), 1, 0),
  (.dma (sendQ 0), 2, 0), (.dma (sendQ 1), 2, 0), (.dma (recvQ 0), 0, 0), (.dma (recvQ 1), 0, 0), (.dma (recvQ 0), 1, 0), (.dma (recvQ 1), 1, 0),
  (.dma (recvQ 0), 2, 0), (.dma (recvQ 1), 2, 0), (.reg creS, 0, 0), (.reg creS, 0, 1), (.reg creS, 0, 2), (.reg creS, 0, 3)]
theorem duty_inj : Function.Injective duty := by decide +kernel

def allToks : Finset (GSem nD τ sig × ℕ × Fin 4) :=
  Finset.univ.map ⟨fun ck : Dev nD × Fin 18 => (((ck.1 : Thread nD τ), (duty ck.2).1), (duty ck.2).2), fun _ _ h =>
    Prod.ext (congrArg (fun t : GSem nD τ sig × ℕ × Fin 4 => t.1.1.1) h)
      (duty_inj (Prod.ext (congrArg (fun t : GSem nD τ sig × ℕ × Fin 4 => t.1.2) h)
        (congrArg (fun t : GSem nD τ sig × ℕ × Fin 4 => t.2) h)))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem own_mem (c : Dev nD) (k : Fin 5) : ((c : Thread nD τ), osem k) ∈ (barCells ∪ scCells : Finset (GSem nD τ sig)) :=
  Finset.mem_union_right _ (Finset.mem_map_of_mem scEmb (Finset.mem_univ (c, k)))

/-- The tokens of one device's cells, by the kind of cell. -/
def cellToks (c : Dev nD) : sProp 𝕄 :=
  iprop(dutyTok ER (barCell c) 0 0 ∗ dutyTok ER (barCell c) 0 1
    ∗ (bigSep (Finset.range 6) fun g => dutyTok ER (sendCell c (sl g)) (g / 2) 0)
    ∗ (bigSep (Finset.range 6) fun g => dutyTok ER (recvCell c (sl g)) (g / 2) 0)
    ∗ bigSep (Finset.univ : Finset (Fin 4)) fun d => dutyTok ER (creCell c) 0 d)

theorem eighteen_eq (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8
    ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem eighteen_split (Φ : Fin 18 → sProp 𝕄) : bigSep Finset.univ Φ ⊢ (iprop(Φ 0 ∗ Φ 1 ∗ (Φ 2 ∗ Φ 3 ∗ Φ 4 ∗ Φ 5 ∗ Φ 6 ∗ Φ 7)
    ∗ (Φ 8 ∗ Φ 9 ∗ Φ 10 ∗ Φ 11 ∗ Φ 12 ∗ Φ 13) ∗ Φ 14 ∗ Φ 15 ∗ Φ 16 ∗ Φ 17) : sProp 𝕄) := by
  rw [eighteen_eq]
  iintro ⟨B0, B1, S0, S1, S2, S3, S4, S5, R0, R1, R2, R3, R4, R5, C⟩
  isplitl [B0]; · iexact B0
  isplitl [B1]; · iexact B1
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [R0 R1 R2 R3 R4 R5]
  · isplitl [R0]; · iexact R0
    isplitl [R1]; · iexact R1
    isplitl [R2]; · iexact R2
    isplitl [R3]; · iexact R3
    isplitl [R4]; · iexact R4
    iexact R5
  iexact C

theorem toks_of_cells :
    (bigSep allToks (fun x => dutyTok ER x.1 x.2.1 x.2.2) : sProp 𝕄) ⊢ (bigSep Finset.univ fun c : Dev nD => cellToks c : sProp 𝕄) := by
  unfold allToks; rw [bigSep_map, bigSep_univ_prod]
  refine bigSep_mono fun c _ => (eighteen_split _).trans (Entails.of_eq ?_)
  unfold cellToks
  rw [range6_eq (F := F), range6_eq (F := F), four_eq (F := F)]
  rfl

/-- A family over the devices, read at each device's neighbour. -/
theorem at_next (Φ : Dev nD → sProp 𝕄) : (bigSep Finset.univ Φ : sProp 𝕄) = bigSep Finset.univ fun c => Φ (nxt c) := bigSep_univ_equiv ring Φ
theorem at_prev (Φ : Dev nD → sProp 𝕄) : (bigSep Finset.univ Φ : sProp 𝕄) = bigSep Finset.univ fun c => Φ (prv c) := bigSep_univ_equiv gnir Φ

/-- The tokens and the rights on slots, each with the device that uses it. -/
theorem deal :
    iprop((bigSep Finset.univ fun c : Dev nD => cellToks c)
      ∗ (bigSep Finset.univ fun c : Dev nD => bigSep (Finset.univ : Finset (Fin 4)) fun i => readerAt ES (c, i) 0)
      ∗ bigSep Finset.univ fun c : Dev nD => bigSep (Finset.univ : Finset (Fin 4)) fun i => writeTok ES (c, i) 1)
      ⊢ (bigSep Finset.univ fun c : Dev nD => toks c : sProp 𝕄) := by
  unfold cellToks toks
  simp only [bigSep_sep']
  rw [at_prev (fun c => dutyTok ER (barCell c) 0 0), at_next (fun c => dutyTok ER (barCell c) 0 1),
    at_next (fun c => bigSep (Finset.range 6) fun g => dutyTok ER (recvCell c (sl g)) (g / 2) 0),
    at_prev (fun c => bigSep (Finset.univ : Finset (Fin 4)) fun d => dutyTok ER (creCell c) 0 d),
    at_prev (fun c => bigSep (Finset.univ : Finset (Fin 4)) fun i => readerAt ES (c, i) 0)]
  iintro ⟨⟨B0, B1, S, R, C⟩, Rd, W⟩
  isplitl [B0]; · iexact B0
  isplitl [B1]; · iexact B1
  isplitl [S]; · iexact S
  isplitl [R]; · iexact R
  isplitl [C]; · iexact C
  isplitl [Rd] <;> iassumption

/-! ## Records -/

variable (X : Dev nD → Vec F S4x512x4096 .bf16)

/-- What every device may consult. -/
def records (κ : GSem nD τ sig → ℕ) (Ks : Dev nD × Fin 4 → ℕ) : sProp 𝕄 :=
  iprop((bigSep (barCells ∪ scCells) fun g => cellInv ER (Rd X) (κ g) g)
    ∗ (bigSep Finset.univ fun k => slotInv ES (Ks k) k (freed k))
    ∗ bigSep barCells fun g => reached ER g 0)

instance records_persistent (κ : GSem nD τ sig → ℕ) (Ks : Dev nD × Fin 4 → ℕ) : BI.Persistent (records X κ Ks) := by
  unfold records; infer_instance

theorem inv_at (κ : GSem nD τ sig → ℕ) {g : GSem nD τ sig} (hg : g ∈ (barCells ∪ scCells : Finset (GSem nD τ sig))) :
    (bigSep (barCells ∪ scCells) fun g => (cellInv ER (Rd X) (κ g) g : sProp 𝕄)) ⊢ (cellInv ER (Rd X) (κ g) g : sProp 𝕄) := bigSep_elim hg

theorem reached_at (c : Dev nD) : (bigSep barCells fun g => (reached ER g 0 : sProp 𝕄)) ⊢ (reached ER (barCell c) 0 : sProp 𝕄) :=
  bigSep_elim (Finset.mem_map_of_mem barEmb (Finset.mem_univ c))

theorem slots_dev (Ks : Dev nD × Fin 4 → ℕ) (c : Dev nD) :
    (bigSep Finset.univ fun k => (slotInv ES (Ks k) k (freed k) : sProp 𝕄))
      ⊢ (bigSep Finset.univ fun i : Fin 4 => (slotInv ES (Ks (c, i)) (c, i) (freed (c, i)) : sProp 𝕄)) := by
  rw [bigSep_univ_prod]
  exact bigSep_elim (Φ := fun c : Dev nD => (bigSep Finset.univ fun i : Fin 4 => (slotInv ES (Ks (c, i)) (c, i) (freed (c, i)) : sProp 𝕄))) (Finset.mem_univ c)

theorem records_dev (κ : GSem nD τ sig → ℕ) (Ks : Dev nD × Fin 4 → ℕ) (c : Dev nD) : (records X κ Ks : sProp 𝕄) ⊢ (devInv X κ Ks c : sProp 𝕄) := by
  unfold records devInv
  simp only [two_eq]
  iintro ⟨#HI, #HS, -⟩
  isplitr; · iapply (inv_at X κ (bar_mem c)); iexact HI
  isplitr; · iapply (inv_at X κ (own_mem c 0)); iexact HI
  isplitr
  · isplitr; · iapply (inv_at X κ (own_mem c 1)); iexact HI
    iapply (inv_at X κ (own_mem c 2)); iexact HI
  isplitr
  · isplitr; · iapply (inv_at X κ (own_mem c 3)); iexact HI
    iapply (inv_at X κ (own_mem c 4)); iexact HI
  iapply (slots_dev Ks c); iexact HS

theorem records_invs (κ : GSem nD τ sig → ℕ) (Ks : Dev nD × Fin 4 → ℕ) : (records X κ Ks : sProp 𝕄) ⊢ (invs X κ Ks : sProp 𝕄) := by
  unfold invs
  exact (bigSep_of_persistent Finset.univ (records X κ Ks)).trans (bigSep_mono fun c _ => records_dev X κ Ks c)

/-- What stays with one device. -/
def linear (c : Dev nD) : sProp 𝕄 :=
  iprop(atPos ER (barCell c) 0 ∅ 0 ∗ (bigSep Finset.univ fun k : Fin 5 => openTok ER ((c : Thread nD τ), osem k)) ∗ toks c)

theorem five_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ghost_intro (κ : GSem nD τ sig → ℕ) (Ks : Dev nD × Fin 4 → ℕ) (c : Dev nD) :
    iprop(records X κ Ks ∗ linear c) ⊢ (iprop(∃ K Ks, ghost X K Ks c) : sProp 𝕄) := by
  unfold linear ghost
  rw [five_eq]
  simp only [two_eq]
  iintro ⟨#HR, Ha, ⟨O0, O1, O2, O3, O4⟩, Ht⟩
  iexists κ; iexists Ks
  isplitr; · iapply (records_invs X κ Ks); iexact HR
  isplitl [Ha]; · iexact Ha
  unfold records
  icases HR with ⟨-, -, #Hr⟩
  isplitr; · iapply (reached_at (F := F) (prv c)); iexact Hr
  isplitr; · iapply (reached_at (F := F) (nxt c)); iexact Hr
  isplitl [O0]; · iexact O0
  isplitl [O1 O2]; · isplitl [O1] <;> iassumption
  isplitl [O3 O4]; · isplitl [O3] <;> iassumption
  iexact Ht

end Cert.KernelIdeal.Talk

end
-- ==== Proof.KernelIdeal.Attn.lean ====
/-
  The attention call: at each grid point its body reads a block of each operand and stores the attention of those blocks. Two of
  its operands are blocks of one array, which the two windows hold by shares.
-/
module

public import proofs.«01_k».proof.Proof.KernelIdeal.Hop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

@[expose] public section

noncomputable section

namespace Cert.KernelIdeal.Talk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## One point -/

/-- On buffers holding the blocks, the body leaves the blocks and puts their attention in the result's buffer. -/
theorem attn_run (c : Dev nD) (i : grid7.Coords) (kM : Memref sig .tc .vmem S1x256x128 .bf16) (hk : kM.IsWhole)
    (vM : Memref sig .tc .vmem S1x256x128 .bf16) (hv : vM.IsWhole) (qM : Memref sig .tc .vmem S256x128 .bf16) (hq : qM.IsWhole)
    (qrM : Memref sig .tc .vmem S1x1x256x64 .bf16) (hqr : qrM.IsWhole) (krM : Memref sig .tc .vmem S256x64 .bf16) (hkr : krM.IsWhole)
    (oM : Memref sig .tc .vmem S256x128 .bf16) (ho : oM.IsWhole)
    (k v : Vec F S1x256x128 .bf16) (q : Vec F S256x128 .bf16) (qr : Vec F S1x1x256x64 .bf16) (kr : Vec F S256x64 .bf16)
    (K : PUnit → sProp 𝕄) :
    iprop(owns (c : Thread nD τ) kM fullShare k ∗ owns (c : Thread nD τ) vM fullShare v ∗ owns (c : Thread nD τ) qM fullShare q
        ∗ owns (c : Thread nD τ) qrM fullShare qr ∗ owns (c : Thread nD τ) krM fullShare kr ∗ (∃ d, owns (c : Thread nD τ) oM fullShare d)
        ∗ (iprop(owns (c : Thread nD τ) kM fullShare k ∗ owns (c : Thread nD τ) vM fullShare v ∗ owns (c : Thread nD τ) qM fullShare q
            ∗ owns (c : Thread nD τ) qrM fullShare qr ∗ owns (c : Thread nD τ) krM fullShare kr
            ∗ owns (c : Thread nD τ) oM fullShare (k7_pay1 q k v qr kr)) -∗ K ⟨⟩))
      ⊢ wp frame (wpE (defs₀ (F := F)) 𝒱₀ c none) Set.univ (cc7__attn_body i kM hk vM hv qM hq qrM hqr krM hkr oM ho) K := by
  simp only [cc7__attn_body_eq_skeleton]; unfold cc7__attn_body_skel
  unfold owns
  iintro ⟨⟨%f0, %h0, H0⟩, ⟨%f1, %h1, H1⟩, ⟨%f2, %h2, H2⟩, ⟨%f3, %h3, H3⟩, ⟨%f4, %h4, H4⟩, ⟨%d, %f5, -, H5⟩, Hk⟩
  sl_exec
  sl_step
  iapply Hk
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  iexists _; isplitr
  swap; · iexact H5
  ipureintro
  refine (View.read_writes_full _ _ _ _ _).trans ?_
  rw [View.readAt_full, View.readAt_full, View.readAt_full, View.readAt_full, View.readAt_full, h0, h1, h2, h3, h4]

/-! ## The call's data -/

-- What the buffers hold at the call's entry.
variable (V : (c : Dev nD) → (b : Ref sig .tc) → Buf (Elt F) ((c : Thread nD τ).loc b))

/-- A window's block of its array at a point. -/
def ablk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the point stores. -/
def attnAt (c : Dev nD) (t : Fin cfg7.N) : Vec F S256x128 .bf16 :=
  k7_pay1 (ablk V c 2 t) (ablk V c 0 t) (ablk V c 1 t) (ablk V c 3 t) (ablk V c 4 t)

def dat7 (c : Dev nD) : Dat τ (Elt F) ℕ ℕ UU ℕ cfg7 c where
  A w := V c (Pipeline.arrRef spec7 w)
  after w t := match w with
    | ⟨0, _⟩ => ablk V c 0 t
    | ⟨1, _⟩ => ablk V c 1 t
    | ⟨2, _⟩ => ablk V c 2 t
    | ⟨3, _⟩ => ablk V c 3 t
    | ⟨4, _⟩ => ablk V c 4 t
    | ⟨5, _⟩ => attnAt V c t
  Φ _ := iprop(Pipeline.scopedRest spec7 c ∗ ∃ r, prngReg c r)
  q w := Pipeline.shareOf spec7 w
  owed _ := 0

theorem before7_0 (c : Dev nD) (t : Fin cfg7.N) (d) : (dat7 V c).before 0 t d = ablk V c 0 t :=
  (dat7 V c).before_in_eq_fetched 0 rfl (fun _ => rfl) (fun _ _ _ => rfl) (fun _ => rfl) t d
theorem before7_1 (c : Dev nD) (t : Fin cfg7.N) (d) : (dat7 V c).before 1 t d = ablk V c 1 t :=
  (dat7 V c).before_in_eq_fetched 1 rfl (fun _ => rfl) (fun _ _ _ => rfl) (fun _ => rfl) t d
theorem before7_2 (c : Dev nD) (t : Fin cfg7.N) (d) : (dat7 V c).before 2 t d = ablk V c 2 t :=
  (dat7 V c).before_in_eq_fetched 2 rfl (fun _ => rfl) (fun _ _ _ => rfl) (fun _ => rfl) t d
theorem before7_3 (c : Dev nD) (t : Fin cfg7.N) (d) : (dat7 V c).before 3 t d = ablk V c 3 t :=
  (dat7 V c).before_in_eq_fetched 3 rfl (fun _ => rfl) (fun _ _ _ => rfl) (fun _ => rfl) t d
theorem before7_4 (c : Dev nD) (t : Fin cfg7.N) (d) : (dat7 V c).before 4 t d = ablk V c 4 t :=
  (dat7 V c).before_in_eq_fetched 4 rfl (fun _ => rfl) (fun _ _ _ => rfl) (fun _ => rfl) t d

/-! ## The body -/

theorem row7 (t : Fin cfg7.N) : defs₀ (F := F) .tc cfg7.body (cfg7.bodyArgs t (cfg7.slots t)) = bodyAt7 t := by
  unfold defs₀; rw [Defs.onTc_tc]

theorem body7 (c : Dev nD) : BodyObligation (dat7 V c) (defs₀ (F := F)) 𝒱₀ 0 Set.univ := fun t => by
  rw [bigSep_W7, bigSep_W7, row7]
  simp only [before7_0, before7_1, before7_2, before7_3, before7_4]
  rw [show (dat7 V c).Φ t.succ = (dat7 V c).Φ t.castSucc from rfl,
    show (dat7 V c).owesAt 0 t.succ = (dat7 V c).owesAt 0 t.castSucc from rfl]
  unfold bodyAt7
  iintro ⟨HΦ, Ho, ⟨%d0, H0⟩, ⟨%d1, H1⟩, ⟨%d2, H2⟩, ⟨%d3, H3⟩, ⟨%d4, H4⟩, ⟨%d5, H5⟩⟩
  iapply (attn_run c (grid7.coords t) _ _ _ _ _ _ _ _ _ _ _ _ (ablk V c 0 t) (ablk V c 1 t) (ablk V c 2 t) (ablk V c 3 t) (ablk V c 4 t))
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end Cert.KernelIdeal.Talk

end
-- ==== Proof.KernelIdeal.Vals.lean ====
/-
  What every buffer holds after each call and each stretch of host operations, each call's result taken from its own data.
-/
module

public import proofs.«01_k».proof.Proof.KernelIdeal.Region
public import proofs.«01_k».proof.Proof.KernelIdeal.Attn
public import proofs.«01_k».proof.Proof.Gen.Own.KernelIdeal.RegionsD

@[expose] public section

noncomputable section

namespace Cert.KernelIdeal.Talk

open Cert.KernelIdeal Cert.KernelIdeal.Gen Cert.KernelIdeal.Own

open Idealize.ShloMosaic Idealize.ShloMosaic.TcCoe
open Idealize.SL Idealize.SL.RA Idealize.SL.BI
open Idealize.ShloMosaic.Pipeline (Dat)

variable {F : FTy → Type} [FloatOps F]
variable (m : (ℓ : Loc nD τ sig) → Buf (Elt F) ℓ)

/-- A valuation read at the TensorCore's references. -/
abbrev at' (W : Dev nD → Valuation τ sig (Elt F)) (c : Dev nD) (b : Ref sig .tc) : Buf (Elt F) ((c : Thread nD τ).loc b) := W c (Proc.devRef .tc b)

def o2 (c : Dev nD) : Buf (Elt F) ((c : Thread nD τ).loc main_v2) :=
  (K0.dat (Ix := ℕ) (U := UU) (Lvl := ℕ) 𝒱₀ (at' (V1 m)) O₀ c).arrAt 2 cfg0.N
def W2 (c : Dev nD) : Valuation τ sig (Elt F) := Function.update (V1 m c) main_v2 (o2 m c)
def o3 (c : Dev nD) : Buf (Elt F) ((c : Thread nD τ).loc main_v3) :=
  (K1.dat (Ix := ℕ) (U := UU) (Lvl := ℕ) 𝒱₀ (at' (W2 m)) O₀ c).arrAt 2 cfg1.N
def W3 (c : Dev nD) : Valuation τ sig (Elt F) := Function.update (W2 m c) main_v3 (o3 m c)
def o4 (c : Dev nD) : Buf (Elt F) ((c : Thread nD τ).loc main_v4) :=
  (K2.dat (Ix := ℕ) (U := UU) (Lvl := ℕ) 𝒱₀ (at' (W3 m)) O₀ c).arrAt 2 cfg2.N
def W4 (c : Dev nD) : Valuation τ sig (Elt F) := Function.update (W3 m c) main_v4 (o4 m c)
def W5 (c : Dev nD) : Valuation τ sig (Elt F) := StableHlo.after hostOps3 (W4 m c)
def W6 (c : Dev nD) : Valuation τ sig (Elt F) := Function.update (W5 m c) main_v7 (Y (opd (W5 m)) c)
def o7 (c : Dev nD) : Buf (Elt F) ((c : Thread nD τ).loc main_v8) :=
  (K4.dat (Ix := ℕ) (U := UU) (Lvl := ℕ) 𝒱₀ (at' (W6 m)) (fun _ => 0) c).arrAt 2 cfg4.N
def W7 (c : Dev nD) : Valuation τ sig (Elt F) := Function.update (W6 m c) main_v8 (o7 m c)
def o8 (c : Dev nD) : Buf (Elt F) ((c : Thread nD τ).loc main_v9) :=
  (K5.dat (Ix := ℕ) (U := UU) (Lvl := ℕ) 𝒱₀ (at' (W7 m)) (fun _ => 0) c).arrAt 2 cfg5.N
def W8 (c : Dev nD) : Valuation τ sig (Elt F) := Function.update (W7 m c) main_v9 (o8 m c)
def W9 (c : Dev nD) : Valuation τ sig (Elt F) := StableHlo.after hostOps6 (W8 m c)
def o10 (c : Dev nD) : Buf (Elt F) ((c : Thread nD τ).loc main_v12) :=
  (K6.dat (Ix := ℕ) (U := UU) (Lvl := ℕ) 𝒱₀ (at' (W9 m)) (fun _ => 0) c).arrAt 2 cfg6.N
def W10 (c : Dev nD) : Valuation τ sig (Elt F) := Function.update (W9 m c) main_v12 (o10 m c)
def o11 (c : Dev nD) : Buf (Elt F) ((c : Thread nD τ).loc main_v13) := (dat7 (at' (W10 m)) c).arrAt 5 cfg7.N
def W11 (c : Dev nD) : Valuation τ sig (Elt F) := Function.update (W10 m c) main_v13 (o11 m c)
def o12 (c : Dev nD) : Buf (Elt F) ((c : Thread nD τ).loc main_v14) :=
  (K8.dat (Ix := ℕ) (U := UU) (Lvl := ℕ) 𝒱₀ (at' (W11 m)) (fun _ => 0) c).arrAt 2 cfg8.N
def W12 (c : Dev nD) : Valuation τ sig (Elt F) := Function.update (W11 m c) main_v14 (o12 m c)

/-- What the calls leave, in the generated modules' shape. -/
def outs : Outs (F := F) := fun J r c => match J with
  | 2 => W2 m c (Proc.devRef .tc r) | 3 => W3 m c (Proc.devRef .tc r) | 4 => W4 m c (Proc.devRef .tc r) | 6 => W6 m c (Proc.devRef .tc r)
  | 7 => W7 m c (Proc.devRef .tc r) | 8 => W8 m c (Proc.devRef .tc r) | 10 => W10 m c (Proc.devRef .tc r) | 11 => W11 m c (Proc.devRef .tc r)
  | 12 => W12 m c (Proc.devRef .tc r) | _ => V0 m c (Proc.devRef .tc r)

theorem W2_self (c : Dev nD) : W2 m c (Proc.devRef .tc main_v2) = o2 m c := Function.update_self _ _ _
theorem W3_self (c : Dev nD) : W3 m c (Proc.devRef .tc main_v3) = o3 m c := Function.update_self _ _ _
theorem W4_self (c : Dev nD) : W4 m c (Proc.devRef .tc main_v4) = o4 m c := Function.update_self _ _ _
theorem W6_self (c : Dev nD) : W6 m c (Proc.devRef .tc main_v7) = Y (opd (W5 m)) c := Function.update_self _ _ _
theorem W7_self (c : Dev nD) : W7 m c (Proc.devRef .tc main_v8) = o7 m c := Function.update_self _ _ _
theorem W8_self (c : Dev nD) : W8 m c (Proc.devRef .tc main_v9) = o8 m c := Function.update_self _ _ _
theorem W10_self (c : Dev nD) : W10 m c (Proc.devRef .tc main_v12) = o10 m c := Function.update_self _ _ _
theorem W11_self (c : Dev nD) : W11 m c (Proc.devRef .tc main_v13) = o11 m c := Function.update_self _ _ _
theorem W12_self (c : Dev nD) : W12 m c (Proc.devRef .tc main_v14) = o12 m c := Function.update_self _ _ _

/-- Two equal buffers' contents updated alike. -/
theorem upd {W W' : Valuation τ sig (Elt F)} (h : W = W') (b : DevRef τ sig) {x y : b.ty.Contents (Elt F)} (e : x = y) :
    Function.update W b x = Function.update W' b y := by rw [h, e]

theorem V2_eq : V2 m (outs m) = W2 m := funext fun c => upd rfl _ (W2_self m c)
theorem V3_eq : V3 m (outs m) = W3 m := funext fun c => upd (congrFun (V2_eq m) c) _ (W3_self m c)
theorem V4_eq : V4 m (outs m) = W4 m := funext fun c => upd (congrFun (V3_eq m) c) _ (W4_self m c)
theorem V5_eq : V5 m (outs m) = W5 m := funext fun c => congrArg (StableHlo.after hostOps3) (congrFun (V4_eq m) c)
theorem V6_eq : V6 m (outs m) = W6 m := funext fun c => upd (congrFun (V5_eq m) c) _ (W6_self m c)
theorem V7_eq : V7 m (outs m) = W7 m := funext fun c => upd (congrFun (V6_eq m) c) _ (W7_self m c)
theorem V8_eq : V8 m (outs m) = W8 m := funext fun c => upd (congrFun (V7_eq m) c) _ (W8_self m c)
theorem V9_eq : V9 m (outs m) = W9 m := funext fun c => congrArg (StableHlo.after hostOps6) (congrFun (V8_eq m) c)
theorem V10_eq : V10 m (outs m) = W10 m := funext fun c => upd (congrFun (V9_eq m) c) _ (W10_self m c)
theorem V11_eq : V11 m (outs m) = W11 m := funext fun c => upd (congrFun (V10_eq m) c) _ (W11_self m c)
theorem V12_eq : V12 m (outs m) = W12 m := funext fun c => upd (congrFun (V11_eq m) c) _ (W12_self m c)

/-! ## The calls' data together -/

/-- The ring's and the attention's data; the other entries are not read. -/
def rest : (p : Fin 9) → (c : Dev nD) → Dat τ (Elt F) ℕ ℕ UU ℕ (cfgs p) c
  | ⟨0, _⟩ => fun c => K0.dat 𝒱₀ (at' (V1 m)) O₀ c
  | ⟨1, _⟩ => fun c => K1.dat 𝒱₀ (at' (V1 m)) O₀ c
  | ⟨2, _⟩ => fun c => K2.dat 𝒱₀ (at' (V1 m)) O₀ c
  | ⟨3, _⟩ => fun c => dat3 (W5 m) c
  | ⟨4, _⟩ => fun c => K4.dat 𝒱₀ (at' (V1 m)) O₀ c
  | ⟨5, _⟩ => fun c => K5.dat 𝒱₀ (at' (V1 m)) O₀ c
  | ⟨6, _⟩ => fun c => K6.dat 𝒱₀ (at' (V1 m)) O₀ c
  | ⟨7, _⟩ => fun c => dat7 (at' (W10 m)) c
  | ⟨8, _⟩ => fun c => K8.dat 𝒱₀ (at' (V1 m)) O₀ c

abbrev none' : Dev nD → CellTallies nD τ sig ℕ := fun _ => 0

/-- Every call's data. -/
abbrev dats : (p : Fin 9) → (c : Dev nD) → Dat τ (Elt F) ℕ ℕ UU ℕ (cfgs p) c :=
  pdatsD m (outs m) 𝒱₀ (rest m) O₀ O₀ O₀ none' none' none' none'

theorem dats3 (c : Dev nD) : dats m 3 c = dat3 (W5 m) c := rfl
theorem dats7 (c : Dev nD) : dats m 7 c = dat7 (at' (W10 m)) c := rfl

theorem out0 (c : Dev nD) : outs m 2 main_v2 c = (dats m 0 c).arrAt 2 cfg0.N := W2_self m c
theorem out1 (c : Dev nD) : outs m 3 main_v3 c = (dats m 1 c).arrAt 2 cfg1.N :=
  (W3_self m c).trans (congrArg (fun V => (K1.dat (Ix := ℕ) (U := UU) (Lvl := ℕ) 𝒱₀ (at' V) O₀ c).arrAt 2 cfg1.N) (V2_eq m).symm)
theorem out2 (c : Dev nD) : outs m 4 main_v4 c = (dats m 2 c).arrAt 2 cfg2.N :=
  (W4_self m c).trans (congrArg (fun V => (K2.dat (Ix := ℕ) (U := UU) (Lvl := ℕ) 𝒱₀ (at' V) O₀ c).arrAt 2 cfg2.N) (V3_eq m).symm)
theorem out4 (c : Dev nD) : outs m 7 main_v8 c = (dats m 4 c).arrAt 2 cfg4.N :=
  (W7_self m c).trans (congrArg (fun V => (K4.dat (Ix := ℕ) (U := UU) (Lvl := ℕ) 𝒱₀ (at' V) none' c).arrAt 2 cfg4.N) (V6_eq m).symm)
theorem out5 (c : Dev nD) : outs m 8 main_v9 c = (dats m 5 c).arrAt 2 cfg5.N :=
  (W8_self m c).trans (congrArg (fun V => (K5.dat (Ix := ℕ) (U := UU) (Lvl := ℕ) 𝒱₀ (at' V) none' c).arrAt 2 cfg5.N) (V7_eq m).symm)
theorem out6 (c : Dev nD) : outs m 10 main_v12 c = (dats m 6 c).arrAt 2 cfg6.N :=
  (W10_self m c).trans (congrArg (fun V => (K6.dat (Ix := ℕ) (U := UU) (Lvl := ℕ) 𝒱₀ (at' V) none' c).arrAt 2 cfg6.N) (V9_eq m).symm)
theorem out8 (c : Dev nD) : outs m 12 main_v14 c = (dats m 8 c).arrAt 2 cfg8.N :=
  (W12_self m c).trans (congrArg (fun V => (K8.dat (Ix := ℕ) (U := UU) (Lvl := ℕ) 𝒱₀ (at' V) none' c).arrAt 2 cfg8.N) (V11_eq m).symm)

end Cert.KernelIdeal.Talk

end
-- ==== Proof.KernelIdeal.Calls.lean ====
/-
  The program's calls as segments, each entered from the unscoped buffers and what rides beside them, and left at the next ones.
-/
module

public import proofs.«01_k».proof.Proof.KernelIdeal.Vals
public import Idealize.ShloMosaic.Lib.Pipeline.RegionsLoop
public import Idealize.ShloMosaic.Lib.Pipeline.RegionArrays

@[expose] public section

noncomputable section

namespace Cert.KernelIdeal.Talk

open Cert.KernelIdeal Cert.KernelIdeal.Gen Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig ℕ (Elt F) ℕ UU ℕ

variable (m : (ℓ : Loc nD τ sig) → Buf (Elt F) ℓ)

/-! ## Levels: the staging semaphores are below everything the ring owes -/

theorem kind_of (p : Fin 9) : ∀ (w : Fin (cfgs p).W) (s : Fin ((cfgs p).win w).nbuf), kindOf (.dma (((cfgs p).win w).sem s)) = .other := by
  revert p; decide +kernel

theorem cutOf (p : Fin 9) (D : Dev nD → CellTallies nD τ sig ℕ) (h : ∀ c, Above 0 (D c)) :
    Pipeline.LevelCut (pcfgs (F := F)) adm 0 L lv p D (fun _ => 0) where
  hι c w s := by rw [L_tc]; decide
  hιb c w s := by
    show lvOf (kindOf (.dma (((cfgs p).win w).sem s))) 0 ≤ 0
    rw [kind_of]; exact Nat.le_refl _
  hD c g i hg := h c g i hg

theorem above_none (c : Dev nD) : Above 0 (none' c) := fun _ _ h => absurd h (Nat.lt_irrefl 0)

/-! ## What rides beside the buffers -/

/-- Before the ring: what the ring needs, and what the device owes; after it, the barrier's counter back at zero. -/
def E (j : Fin 10) (c : Dev nD) : sProp 𝕄 :=
  if j.val < 4 then iprop(Tk (W5 m) c ∗ (∃ r, prngReg c r) ∗ ∃ W, owes (c : Thread nD τ) (O₀ c) W)
  else iprop((∃ r, prngReg c r) ∗ semVal (barCell c) 0 ∗ ∃ W, owes (c : Thread nD τ) (none' c) W)

theorem E_before (j : Fin 10) (h : j.val < 4) (c : Dev nD) :
    (E m j c : sProp 𝕄) = iprop(Tk (W5 m) c ∗ (∃ r, prngReg c r) ∗ ∃ W, owes (c : Thread nD τ) (O₀ c) W) := if_pos h
theorem E_after (j : Fin 10) (h : ¬ j.val < 4) (c : Dev nD) :
    (E m j c : sProp 𝕄) = iprop((∃ r, prngReg c r) ∗ semVal (barCell c) 0 ∗ ∃ W, owes (c : Thread nD τ) (none' c) W) := if_neg h

theorem in_before (j : Fin 10) (h : j.val < 4) (c : Dev nD) :
    (E m j c : sProp 𝕄) ⊢ iprop((∃ r, prngReg c r) ∗ (∃ W, owes (c : Thread nD τ) (O₀ c) W) ∗ Tk (W5 m) c) := by
  rw [E_before m j h]
  iintro ⟨HT, Hp, HO⟩
  isplitl [Hp]; · iexact Hp
  isplitl [HO] <;> iassumption
theorem out_before (j : Fin 10) (h : j.val < 4) (c : Dev nD) :
    iprop((∃ r, prngReg c r) ∗ (∃ W, owes (c : Thread nD τ) (O₀ c) W) ∗ Tk (W5 m) c) ⊢ (E m j c : sProp 𝕄) := by
  rw [E_before m j h]
  iintro ⟨Hp, HO, HT⟩
  isplitl [HT]; · iexact HT
  isplitl [Hp] <;> iassumption
theorem in_after (j : Fin 10) (h : ¬ j.val < 4) (c : Dev nD) :
    (E m j c : sProp 𝕄) ⊢ iprop((∃ r, prngReg c r) ∗ (∃ W, owes (c : Thread nD τ) (none' c) W) ∗ semVal (barCell c) 0) := by
  rw [E_after m j h]
  iintro ⟨Hp, HT, HO⟩
  isplitl [Hp]; · iexact Hp
  isplitl [HO] <;> iassumption
theorem out_after (j : Fin 10) (h : ¬ j.val < 4) (c : Dev nD) :
    iprop((∃ r, prngReg c r) ∗ (∃ W, owes (c : Thread nD τ) (none' c) W) ∗ semVal (barCell c) 0) ⊢ (E m j c : sProp 𝕄) := by
  rw [E_after m j h]
  iintro ⟨Hp, HO, HT⟩
  isplitl [Hp]; · iexact Hp
  isplitl [HT] <;> iassumption

/-! ## The ring -/

theorem kit3 : Pipeline.PLaunchFacts (nD := nD) (τ := τ) (pcfgs (F := F)) 3 := launch3.toP

/-- The buffers the ring does not touch. -/
abbrev off3 : Finset (DevRef τ sig) := Pipeline.ucRefs τ sig \ Pipeline.arrRefs (τ := τ) spec3

theorem arrs3 : Pipeline.arrRefs (τ := τ) spec3 ⊆ Pipeline.ucRefs τ sig := by decide +kernel

set_option backward.isDefEq.respectTransparency.types false in
def ringSeg : RegionSeg (Name := ℕ) (U := UU) (pcfgs (F := F)) adm (dats m) 0 defs₀ 𝒱₀ L lv 3 :=
  Pipeline.RegionSeg.ofTalk (pcfgs (F := F)) adm (dats m) 0 defs₀ 𝒱₀ L lv 3 osem (by decide : Pipeline.OwnSemFacts spec3 osem)
    ∅ ∅ (Finset.Subset.refl _) kit3 rfl (fun c => (body (W5 m) c).loose)
    (fun _ => 0) O₀ (fun c => (owed_zero (W5 m) c).trans (zero_add _).symm) (owed_last (W5 m)) (fun _ => rfl)
    (fun _ w => match w with | 0 => rfl | 1 => rfl)
    (W5 m) (VOut (W5 m)) (fun _ b hb => absurd hb (by rw [Finset.sdiff_self]; exact Finset.notMem_empty b))
    (Tk (W5 m)) (fun c => semVal (barCell c) 0) (Xk (W5 m)) (fun c => semVal (barCell c) 0) (hopen (W5 m)) (hin (W5 m)) (hout (W5 m))
    (fun c => by iintro H; imodintro; iexact H)
    (fun _ => 0)
    ⟨fun c w s => by rw [L_tc]; decide,
      fun c w s => by
        show lvOf (kindOf (.dma (((cfgs 3).win w).sem s))) 0 ≤ 0
        rw [kind_of]; exact Nat.le_refl _,
      fun c t g i h => cutD (W5 m) c t g i h⟩
    (fun c => StableHlo.held (c : Thread nD τ) off3 (W5 m c))
    (atEntry (W5 m)) (atExit (W5 m))

theorem W6_off (c : Dev nD) : ∀ b ∈ off3, W6 m c b = W5 m c b := fun b hb =>
  Function.update_of_ne (fun h => (Finset.mem_sdiff.mp hb).2 (by rw [h]; decide +kernel)) _ _

theorem ring_pre (c : Dev nD) : iprop(StableHlo.held (c : Thread nD τ) (Pipeline.ucRefs τ sig) (V5 m (outs m) c) ∗ E m 3 c)
    ⊢ ((ringSeg m).pre c : sProp 𝕄) := by
  show _ ⊢ iprop(StableHlo.held (c.tc : Thread nD τ) (Pipeline.arrRefs (τ := τ) spec3) (W5 m c) ∗ (∃ r, prngReg c r)
    ∗ (StableHlo.held (c.tc : Thread nD τ) ∅ (W5 m c) ∗ StableHlo.held (c : Thread nD τ) off3 (W5 m c)) ∗ Tk (W5 m) c
    ∗ ∃ Wd, owes (c : Thread nD τ) (0 + O₀ c) Wd)
  rw [V5_eq, E_before m 3 (by decide), held_none, zero_add, StableHlo.held_sub_split (c : Thread nD τ) arrs3 (W5 m c)]
  iintro ⟨⟨Ha, Hr⟩, HT, Hp, HO⟩
  isplitl [Ha]; · iexact Ha
  isplitl [Hp]; · iexact Hp
  isplitl [Hr]
  · isplitr; · iempintro
    iexact Hr
  isplitl [HT] <;> iassumption

theorem ring_post (c : Dev nD) : ((ringSeg m).post c : sProp 𝕄)
    ⊢ iprop(StableHlo.held (c : Thread nD τ) (Pipeline.ucRefs τ sig) (V6 m (outs m) c) ∗ E m 4 c) := by
  show iprop(StableHlo.held (c.tc : Thread nD τ) (Pipeline.arrRefs (τ := τ) spec3) (W6 m c) ∗ (∃ r, prngReg c r)
    ∗ (StableHlo.held (c.tc : Thread nD τ) ∅ (W6 m c) ∗ StableHlo.held (c : Thread nD τ) off3 (W5 m c)) ∗ semVal (barCell c) 0
    ∗ ∃ Wd, owes (c : Thread nD τ) (none' c) Wd) ⊢ _
  rw [V6_eq, E_after m 4 (by decide), StableHlo.held_sub_split (c : Thread nD τ) arrs3 (W6 m c),
    StableHlo.held_congr (c : Thread nD τ) (S := off3) (W6_off m c)]
  iintro ⟨Ha, Hp, ⟨-, Hr⟩, Hb, HO⟩
  isplitl [Ha Hr]; · isplitl [Ha] <;> iassumption
  isplitl [Hp]; · iexact Hp
  isplitl [Hb] <;> iassumption

/-! ## The attention -/

/-- What the attention call leaves alone. -/
def aside (c : Dev nD) : sProp 𝕄 := iprop(Pipeline.unscopedRest spec7 c (at' (W10 m) c) ∗ semVal (barCell c) 0)

set_option backward.isDefEq.respectTransparency.types false in
def attnSeg : RegionSeg (Name := ℕ) (U := UU) (pcfgs (F := F)) adm (dats m) 0 defs₀ 𝒱₀ L lv 7 :=
  Pipeline.RegionSeg.ofArrays (pcfgs (F := F)) adm (dats m) 0 defs₀ 𝒱₀ L lv 7 none'
    (fun c => iprop(∃ r, prngReg c r)) (fun c => iprop(∃ r, prngReg c r)) launch₀7.toP rfl
    (fun c => (body7 (at' (W10 m)) c).loose) (fun _ _ => rfl) (fun _ => rfl) (fun _ => .rfl) (fun _ => .rfl)
    (fun _ => 0) (cutOf 7 none' above_none) (aside m)

theorem v13_mem : main_v13 ∈ Finset.univ.image (Pipeline.arrRef spec7) := by decide +kernel

theorem W11_keep (c : Dev nD) (r : Ref sig .tc) (h : r ≠ main_v13) : at' (W11 m) c r = at' (W10 m) c r :=
  Function.update_of_ne (StableHlo.devRef_ne_of_ne h) _ _

theorem after_in (c : Dev nD) (w : Fin 6) (hi : (spec7 w).isOut = false) (h : Pipeline.arrRef spec7 w ≠ main_v13) :
    (dat7 (at' (W10 m)) c).arrAt w cfg7.N = at' (W11 m) c (Pipeline.arrRef spec7 w) :=
  ((dat7 (at' (W10 m)) c).arrAt_in w hi _).trans (W11_keep m c _ h).symm

theorem after_out (c : Dev nD) : (dat7 (at' (W10 m)) c).arrAt 5 cfg7.N = at' (W11 m) c main_v13 := (W11_self m c).symm

theorem after_attn (c : Dev nD) : ∀ w : Fin 6, (dat7 (at' (W10 m)) c).arrAt w cfg7.N = at' (W11 m) c (Pipeline.arrRef spec7 w)
  | 0 => after_in m c 0 rfl (by decide)
  | 1 => after_in m c 1 rfl (by decide)
  | 2 => after_in m c 2 rfl (by decide)
  | 3 => after_in m c 3 rfl (by decide)
  | 4 => after_in m c 4 rfl (by decide)
  | 5 => after_out m c

set_option backward.isDefEq.respectTransparency.types false in
theorem attn_pre (c : Dev nD) : iprop(StableHlo.held (c : Thread nD τ) (Pipeline.ucRefs τ sig) (V10 m (outs m) c) ∗ E m 7 c)
    ⊢ ((attnSeg m).pre c : sProp 𝕄) := by
  have hA : (StableHlo.held (c : Thread nD τ) (Pipeline.ucRefs τ sig) (W10 m c) : sProp 𝕄)
      ⊢ iprop((dat7 (at' (W10 m)) c).arrays ((dat7 (at' (W10 m)) c).arrAt · 0) ∗ Pipeline.unscopedRest spec7 c (at' (W10 m) c)) :=
    (Entails.of_eq (Pipeline.unscopedBufs_held c (W10 m c)).symm).trans
      (Pipeline.arrays_of_unscopedBufs_shared (pcfgs (F := F)) adm (dats m) (p := 7) winFacts₀7 sharedIn7 arr_whole7 c (fun _ _ => rfl)
        (at' (W10 m) c) (fun _ => rfl))
  show _ ⊢ iprop((dat7 (at' (W10 m)) c).arrays ((dat7 (at' (W10 m)) c).arrAt · 0) ∗ (∃ r, prngReg c r) ∗ aside m c
    ∗ ∃ W, owes (c : Thread nD τ) (none' c) W)
  rw [V10_eq, E_after m 7 (by decide)]
  unfold aside
  iintro ⟨Hh, Hp, Hb, HO⟩
  ihave Hh := hA $$ Hh
  icases Hh with ⟨Ha, Hr⟩
  isplitl [Ha]; · iexact Ha
  isplitl [Hp]; · iexact Hp
  isplitl [Hr Hb]; · isplitl [Hr] <;> iassumption
  iexact HO

set_option backward.isDefEq.respectTransparency.types false in
theorem attn_post (c : Dev nD) : ((attnSeg m).post c : sProp 𝕄)
    ⊢ iprop(StableHlo.held (c : Thread nD τ) (Pipeline.ucRefs τ sig) (V11 m (outs m) c) ∗ E m 8 c) := by
  have hA : iprop((dat7 (at' (W10 m)) c).arrays ((dat7 (at' (W10 m)) c).arrAt · cfg7.N) ∗ Pipeline.unscopedRest spec7 c (at' (W10 m) c))
      ⊢ (StableHlo.held (c : Thread nD τ) (Pipeline.ucRefs τ sig) (W11 m c) : sProp 𝕄) :=
    (Pipeline.unscopedBufs_of_arrays_shared (pcfgs (F := F)) adm (p := 7) winFacts₀7 sharedIn7 arr_whole7 c (dats m) (fun _ _ => rfl)
        (at' (W10 m) c) (at' (W11 m) c) _ (after_attn m c)
        (fun b hb => Function.update_of_ne (StableHlo.devRef_ne_of_ne fun h => hb (by rw [h]; exact v13_mem)) _ _)).trans
      (Entails.of_eq (Pipeline.unscopedBufs_held c (W11 m c)))
  show iprop((dat7 (at' (W10 m)) c).arrays ((dat7 (at' (W10 m)) c).arrAt · cfg7.N) ∗ (∃ r, prngReg c r) ∗ aside m c
    ∗ ∃ W, owes (c : Thread nD τ) (none' c) W) ⊢ _
  rw [V11_eq, E_after m 8 (by decide)]
  unfold aside
  iintro ⟨Ha, Hp, ⟨Hr, Hb⟩, HO⟩
  isplitl [Ha Hr]
  · iapply hA
    isplitl [Ha] <;> iassumption
  isplitl [Hp]; · iexact Hp
  isplitl [Hb] <;> iassumption

end Cert.KernelIdeal.Talk

end
-- ==== Proof.KernelIdeal.Run.lean ====
/-
  The run of the program: every cell's invariant made at the launch, the items chained, every buffer read at the end and every
  counter back at zero.
-/
module

public import proofs.«01_k».proof.Proof.KernelIdeal.Launch
public import proofs.«01_k».proof.Proof.KernelIdeal.Calls
public import Idealize.ShloMosaic.Harness.Basic

@[expose] public section

noncomputable section

namespace Cert.KernelIdeal.Talk

open Cert.KernelIdeal Cert.KernelIdeal.Gen Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot slotInv released readerAt writeTok)

variable {F : FTy → Type} [FloatOps F]

local notation "𝕄" => MT nD τ sig ℕ (Elt F) ℕ UU ℕ

variable (m : (ℓ : Loc nD τ sig) → Buf (Elt F) ℓ) (ρ : Dev nD → PrngReg)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-! ## The launch -/

def u₀ : UU :=
  (initOf (Pipeline.cells (cfgs) Gen.cellOf_inj) (Pipeline.launchToks (cfgs) Gen.cellOf_inj),
    (launchOf barCells scCells allToks, Release.initSlots Finset.univ 1))

/-- What the protocols start from, all at one device until it is dealt. -/
def seed : sProp 𝕄 :=
  iprop(BI.own (ER (launchOf barCells scCells allToks)) ∗ BI.own (ES (Release.initSlots Finset.univ 1)))
def G (c : Dev nD) : sProp 𝕄 := if c = 0 then seed else iprop(emp)
theorem G_eq : (bigSep Finset.univ G : sProp 𝕄) = seed := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What of a device's holdings is not the protocols'. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ E m 0 c)

theorem T₀_intro (κ : GSem nD τ sig → ℕ) (Ks : Dev nD × Fin 4 → ℕ) (c : Dev nD) :
    iprop(records (opd (W5 m)) κ Ks ∗ (linear c ∗ bundle m c)) ⊢ (T₀ m c : sProp 𝕄) := by
  unfold bundle T₀
  rw [E_before m 0 (by decide)]
  unfold Tk
  iintro ⟨#HR, Hl, Hh, Hc, HO, Hp⟩
  isplitl [Hh]; · iexact Hh
  isplitl [Hl Hc]
  · isplitl [Hl]
    · iapply (ghost_intro (opd (W5 m)) κ Ks c)
      isplitr; · iexact HR
      iexact Hl
    iexact Hc
  isplitl [Hp]; · iexact Hp
  iexists ∅; iexact HO

theorem writes_eq : (bigSep ((Finset.univ : Finset (Dev nD × Fin 4)) ×ˢ Finset.range 1) (fun x => writeTok ES x.1 (x.2 + 1)) : sProp 𝕄)
    = bigSep Finset.univ fun c : Dev nD => bigSep (Finset.univ : Finset (Fin 4)) fun i => writeTok ES (c, i) 1 := by
  rw [← bigSep_univ_prod (fun k : Dev nD × Fin 4 => (writeTok ES k 1 : sProp 𝕄)),
    show (Finset.univ : Finset (Dev nD × Fin 4)) ×ˢ Finset.range 1
      = Finset.univ.map ⟨fun k => (k, 0), fun _ _ h => congrArg Prod.fst h⟩ from by
        ext ⟨k, n⟩
        rw [Finset.mem_product, Finset.mem_map]
        constructor
        · rintro ⟨-, hn⟩
          obtain rfl : n = 0 := by have := Finset.mem_range.mp hn; omega
          exact ⟨k, Finset.mem_univ _, rfl⟩
        · rintro ⟨k', -, h⟩
          cases h
          exact ⟨Finset.mem_univ _, Finset.mem_range.mpr Nat.one_pos⟩, bigSep_map]
  rfl

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from Pipeline.unscopedBufs_held c (V0 m c),
    unscopedSems_eq]
  unfold bundle
  iintro ⟨Hh, Hs, HO, Hc, Hp, HG⟩
  isplitl [Hh HO Hc Hp]
  · isplitl [Hh]; · iexact Hh
    isplitl [Hc]; · iapply (launch_creds c); iexact Hc
    isplitl [HO]; · iexact HO
    iexists (ρ c); iexact Hp
  isplitl [Hs] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : (bigSep Finset.univ (fun c : Dev nD => (semVal (barCell c) 0 : sProp 𝕄)) : sProp 𝕄) ⊢ (bigSep barCells (fun g => (semVal g 0 : sProp 𝕄)) : sProp 𝕄) :=
    Entails.of_eq (bigSep_map (s := Finset.univ) barEmb (Φ := fun g : GSem nD τ sig => (semVal g 0 : sProp 𝕄))).symm
  have hat : (bigSep barCells (fun g => (atPos ER g 0 ∅ 0 : sProp 𝕄)) : sProp 𝕄) ⊢ (bigSep Finset.univ (fun c : Dev nD => (atPos ER (barCell c) 0 ∅ 0 : sProp 𝕄)) : sProp 𝕄) :=
    Entails.of_eq (bigSep_map (s := Finset.univ) barEmb (Φ := fun g : GSem nD τ sig => (atPos ER g 0 ∅ 0 : sProp 𝕄)))
  have hopn : (bigSep scCells (fun g => (openTok ER g : sProp 𝕄)) : sProp 𝕄)
      ⊢ (bigSep Finset.univ (fun c : Dev nD => bigSep Finset.univ fun k : Fin 5 => openTok ER ((c : Thread nD τ), osem k)) : sProp 𝕄) :=
    Entails.of_eq (by rw [bigSep_map, bigSep_univ_prod]; rfl)
  have hrd : (bigSep Finset.univ (fun k : Dev nD × Fin 4 => (readerAt ES k 0 : sProp 𝕄)) : sProp 𝕄)
      ⊢ (bigSep Finset.univ fun c : Dev nD => bigSep (Finset.univ : Finset (Fin 4)) fun i => readerAt ES (c, i) 0 : sProp 𝕄) :=
    Entails.of_eq (bigSep_univ_prod _)
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c) : sProp 𝕄)
      ⊢ (bigSep Finset.univ fun c : Dev nD => iprop(bundle m c ∗ (semVal (barCell c) 0 ∗ G c)) : sProp 𝕄) := bigSep_mono fun c _ => core_split m ρ c
  have hseed : (bigSep Finset.univ (G (F := F)) : sProp 𝕄) ⊢ (seed : sProp 𝕄) := Entails.of_eq G_eq
  iintro ⟨H, -⟩
  ihave H := hall $$ H
  ihave H := (Entails.of_eq (bigSep_sep' _ _ _)) $$ H; icases H with ⟨HB, H⟩
  ihave H := (Entails.of_eq (bigSep_sep' _ _ _)) $$ H; icases H with ⟨Hv, HG⟩
  ihave Hu := hseed $$ HG
  unfold seed
  icases Hu with ⟨Hu, Hs⟩
  imod (Rounds.fund_launch ER (Rd (opd (W5 m))) disjoint_cells (fun g _ h => h) allToks) $$ [Hv Hu] with ⟨%κ, -, #Hinv, #Hr, Hat, Hopen, Htok⟩
  · isplitl [Hv]
    · iapply hv $$ Hv
    · iexact Hu
  imod (Release.slots_init ES Finset.univ 1 (freed (F := F))) $$ Hs with ⟨%Ks, -, #Hsl, Hrd, Hwt⟩
  imodintro
  iapply (bigSep_with_persistent (R := records (opd (W5 m)) κ Ks) (Φ := fun c => iprop(linear c ∗ bundle m c)) fun c _ => T₀_intro m κ Ks c)
  isplitr
  · unfold records
    isplitr; · iexact Hinv
    isplitr; · iexact Hsl
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopn $$ Hopen
    iapply (deal (F := F))
    isplitl [Htok]; · iapply (toks_of_cells (F := F)); iexact Htok
    isplitl [Hrd]; · iapply hrd $$ Hrd
    iapply (Entails.of_eq (writes_eq (F := F))); iexact Hwt
  · iexact HB

/-! ## The run -/

theorem unscoped_sem : ∀ sm : SemLoc sig, sm.isScoped .tc = false → sm = .reg barS := by decide +kernel

theorem seed_launch : (ownU u₀ : sProp 𝕄)
    ⊢ (|={Set.univ}=> iprop(BI.own (EP (initOf (Pipeline.cells cfgs Gen.cellOf_inj)
        (Pipeline.launchToks cfgs Gen.cellOf_inj))) ∗ bigSep Finset.univ G) : sProp 𝕄) := by
  rw [G_eq]
  unfold u₀ seed
  iintro Hu
  ihave H := (ownU_pair _ _) $$ Hu
  icases H with ⟨HP, HX⟩
  ihave HX := (own_pair_emb _ _ _) $$ HX
  icases HX with ⟨HR, HS⟩
  imodintro
  isplitl [HP]; · iexact HP
  isplitl [HR]; · iexact HR
  iexact HS

/-- Each call's record, and the program's items. -/
abbrev items (c : Dev nD) := segs m (outs m) 𝒱₀ L lv (E m) 0 (dats m)
  (R0D m (outs m) 𝒱₀ L lv 0 (rest m) O₀ O₀ O₀ none' none' none' none' (fun _ => 0) (cutOf 0 O₀ above_O₀) (Tk (W5 m)) (out0 m))
  (R1D m (outs m) 𝒱₀ L lv 0 (rest m) O₀ O₀ O₀ none' none' none' none' (fun _ => 0) (cutOf 1 O₀ above_O₀) (Tk (W5 m)) (out1 m))
  (R2D m (outs m) 𝒱₀ L lv 0 (rest m) O₀ O₀ O₀ none' none' none' none' (fun _ => 0) (cutOf 2 O₀ above_O₀) (Tk (W5 m)) (out2 m))
  (ringSeg m)
  (R4D m (outs m) 𝒱₀ L lv 0 (rest m) O₀ O₀ O₀ none' none' none' none' (fun _ => 0) (cutOf 4 none' above_none) (fun c => semVal (barCell c) 0) (out4 m))
  (R5D m (outs m) 𝒱₀ L lv 0 (rest m) O₀ O₀ O₀ none' none' none' none' (fun _ => 0) (cutOf 5 none' above_none) (fun c => semVal (barCell c) 0) (out5 m))
  (R6D m (outs m) 𝒱₀ L lv 0 (rest m) O₀ O₀ O₀ none' none' none' none' (fun _ => 0) (cutOf 6 none' above_none) (fun c => semVal (barCell c) 0) (out6 m))
  (attnSeg m)
  (R8D m (outs m) 𝒱₀ L lv 0 (rest m) O₀ O₀ O₀ none' none' none' none' (fun _ => 0) (cutOf 8 none' above_none) (fun c => semVal (barCell c) 0) (out8 m)) c

abbrev Tₙ (c : Dev nD) : sProp 𝕄 := iprop(StableHlo.held (c : Thread nD τ) (Pipeline.ucRefs τ sig) (V13 m (outs m) c) ∗ semVal (barCell c) 0)

theorem last_state (c : Dev nD) : iprop(StableHlo.held (c : Thread nD τ) (Pipeline.ucRefs τ sig) (V13 m (outs m) c) ∗ E m 9 c)
    ⊢ (iprop(Tₙ m c ∗ ∃ W, owes (c : Thread nD τ) (0 : CellTallies nD τ sig ℕ) W) : sProp 𝕄) := by
  rw [E_after m 9 (by decide)]
  unfold Tₙ
  iintro ⟨Hh, -, Hb, HO⟩
  isplitr [HO]
  · isplitl [Hh] <;> iassumption
  iexact HO

theorem chained (c : Dev nD) : Pipeline.Seg.ChainsAt c (T₀ m) (items m c)
    (fun c => iprop(Tₙ m c ∗ ∃ W, owes (c : Thread nD τ) (0 : CellTallies nD τ sig ℕ) W)) :=
  ⟨.rfl,
    hpre0D m (outs m) 𝒱₀ L lv 0 (rest m) O₀ O₀ O₀ none' none' none' none' (fun _ => 0) (cutOf 0 O₀ above_O₀) (E m) (Tk (W5 m)) (in_before m 0 (by decide)) (out0 m) c,
    (hpost0D m (outs m) 𝒱₀ L lv 0 (rest m) O₀ O₀ O₀ none' none' none' none' (fun _ => 0) (cutOf 0 O₀ above_O₀) (E m) (Tk (W5 m)) (out_before m 1 (by decide)) (out0 m) c).trans
    (hpre1D m (outs m) 𝒱₀ L lv 0 (rest m) O₀ O₀ O₀ none' none' none' none' (fun _ => 0) (cutOf 1 O₀ above_O₀) (E m) (Tk (W5 m)) (in_before m 1 (by decide)) (out1 m) c),
    (hpost1D m (outs m) 𝒱₀ L lv 0 (rest m) O₀ O₀ O₀ none' none' none' none' (fun _ => 0) (cutOf 1 O₀ above_O₀) (E m) (Tk (W5 m)) (out_before m 2 (by decide)) (out1 m) c).trans
    (hpre2D m (outs m) 𝒱₀ L lv 0 (rest m) O₀ O₀ O₀ none' none' none' none' (fun _ => 0) (cutOf 2 O₀ above_O₀) (E m) (Tk (W5 m)) (in_before m 2 (by decide)) (out2 m) c),
    hpost2D m (outs m) 𝒱₀ L lv 0 (rest m) O₀ O₀ O₀ none' none' none' none' (fun _ => 0) (cutOf 2 O₀ above_O₀) (E m) (Tk (W5 m)) (out_before m 3 (by decide)) (out2 m) c,
    ring_pre m c,
    (ring_post m c).trans
    (hpre4D m (outs m) 𝒱₀ L lv 0 (rest m) O₀ O₀ O₀ none' none' none' none' (fun _ => 0) (cutOf 4 none' above_none) (E m) _ (in_after m 4 (by decide)) (out4 m) c),
    (hpost4D m (outs m) 𝒱₀ L lv 0 (rest m) O₀ O₀ O₀ none' none' none' none' (fun _ => 0) (cutOf 4 none' above_none) (E m) _ (out_after m 5 (by decide)) (out4 m) c).trans
    (hpre5D m (outs m) 𝒱₀ L lv 0 (rest m) O₀ O₀ O₀ none' none' none' none' (fun _ => 0) (cutOf 5 none' above_none) (E m) _ (in_after m 5 (by decide)) (out5 m) c),
    hpost5D m (outs m) 𝒱₀ L lv 0 (rest m) O₀ O₀ O₀ none' none' none' none' (fun _ => 0) (cutOf 5 none' above_none) (E m) _ (out_after m 6 (by decide)) (out5 m) c,
    hpre6D m (outs m) 𝒱₀ L lv 0 (rest m) O₀ O₀ O₀ none' none' none' none' (fun _ => 0) (cutOf 6 none' above_none) (E m) _ (in_after m 6 (by decide)) (out6 m) c,
    (hpost6D m (outs m) 𝒱₀ L lv 0 (rest m) O₀ O₀ O₀ none' none' none' none' (fun _ => 0) (cutOf 6 none' above_none) (E m) _ (out_after m 7 (by decide)) (out6 m) c).trans
    (attn_pre m c),
    (attn_post m c).trans
    (hpre8D m (outs m) 𝒱₀ L lv 0 (rest m) O₀ O₀ O₀ none' none' none' none' (fun _ => 0) (cutOf 8 none' above_none) (E m) _ (in_after m 8 (by decide)) (out8 m) c),
    hpost8D m (outs m) 𝒱₀ L lv 0 (rest m) O₀ O₀ O₀ none' none' none' none' (fun _ => 0) (cutOf 8 none' above_none) (E m) _ (out_after m 9 (by decide)) (out8 m) c,
    last_state m c⟩

theorem main_items (c : Dev nD) : main (F := F) c = Pipeline.Seg.run (items m c) := by
  rewrite [main_chain c, Pipeline.Seg.run_eq_chain]
  rfl

theorem mem_uc (r : Ref sig .tc) (h : ¬ (Proc.devRef .tc r : DevRef τ sig).isScoped) : Proc.devRef .tc r ∈ Pipeline.ucRefs τ sig :=
  Finset.mem_filter.mpr ⟨StableHlo.devRef_mem_tcRefs r, h⟩

set_option backward.isDefEq.respectTransparency.types false in
/-- From any memory the program ends with every buffer outside the calls as the last valuation has it, and every counter at
    zero. -/
theorem run_main : θ_run defs (onTc (τ := τ) (main (F := F))) ⟨m, fun _ => 0, ρ⟩
    (fun r => (∀ c : Dev nD, ∀ b ∈ Pipeline.ucRefs τ sig, r.2.mem (c, b) = V13 m (outs m) c b) ∧ r.2.sem = fun _ => 0) :=
  Pipeline.θ_run_regions_kit_dev_sems (pcfgs (F := F)) adm (dats m) 0 Gen.cellOf_inj EP defs₀ 𝒱₀ L lv m ρ main (items m)
    (fun c Q => by rw [main_items m c])
    (fun c => by simp only [items, segs, Pipeline.Seg.pipes_host, Pipeline.Seg.pipes_region, Pipeline.Seg.pipes_nil]; decide)
    O₀ L_of_ne (G (F := F)) u₀ seed_launch
    (T₀ := T₀ m) (Tₙ := Tₙ m) (hch := chained m)
    (hinit := init m ρ)
    (QY := fun c s => (∀ b ∈ Pipeline.ucRefs τ sig, s.mem (c, b) = V13 m (outs m) c b) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V13 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1,
      sem_eq_zero hs fun c sm hsm => by
        obtain rfl := unscoped_sem sm hsm
        exact (h c).2⟩)

/-- So the result is what the last valuation gives it, and the arguments are as they were. -/
theorem run_kept : θ_run defs (onTc (τ := τ) (main (F := F))) ⟨m, fun _ => 0, ρ⟩
    (fun r => (∀ c : Dev nD, r.2.mem ((c : Thread nD τ).loc main_v15) = V13 m (outs m) c main_v15
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun r h =>
    have e (c : Dev nD) (b : Ref sig .tc) (hb : ¬ (Proc.devRef .tc b : DevRef τ sig).isScoped) : r.2.mem ((c : Thread nD τ).loc b) = V13 m (outs m) c b :=
      h.1 c _ (mem_uc b hb)
    ⟨fun c => ⟨e c _ (by decide), (e c main_arg0 (by decide)).trans (V13_main_arg0 m _ c), (e c main_arg1 (by decide)).trans (V13_main_arg1 m _ c), (e c main_arg2 (by decide)).trans (V13_main_arg2 m _ c), (e c main_arg3 (by decide)).trans (V13_main_arg3 m _ c), (e c main_arg4 (by decide)).trans (V13_main_arg4 m _ c), (e c main_arg5 (by decide)).trans (V13_main_arg5 m _ c), (e c main_arg6 (by decide)).trans (V13_main_arg6 m _ c), (e c main_arg7 (by decide)).trans (V13_main_arg7 m _ c)⟩, h.2⟩) (run_main m ρ)

end Cert.KernelIdeal.Talk

end
-- ==== Proof.KernelIdeal.Mat.lean ====
/-
  At the ideal instance each of the seven products' calls leaves the product of the two arrays it reads.
-/
module

public import proofs.«01_k».proof.Proof.KernelIdeal.Vals
public import Idealize.ShloMosaic.Lib.Pointwise
public import Idealize.ShloMosaic.Lib.VecWindow
public import Idealize.ShloMosaic.Lib.Pipeline.ValueKit
public import Idealize.ShloMosaic.PureOps.Ideal

@[expose] public section

noncomputable section

namespace Cert.KernelIdeal.Talk

open Cert.KernelIdeal Cert.KernelIdeal.Gen Cert.KernelIdeal.Own

open Idealize.ShloMosaic Idealize.ShloMosaic.TcCoe
open Idealize.SL Idealize.SL.RA Idealize.SL.BI
open Idealize.ShloMosaic.Pipeline (Dat)

/-- The product of two matrices. -/
def mm {A K N : ℕ} (a : (⟨2, ![A, K]⟩ : Shape).Idx → EReal) (b : (⟨2, ![K, N]⟩ : Shape).Idx → EReal) : (⟨2, ![A, N]⟩ : Shape).Idx → EReal := fun i =>
  ∑ k : Fin K, a (ix2 (i 0) k) * b (ix2 k (i 1))

/-- A product's entry is that of another product whose row and column hold the same. -/
theorem mm_at {A K N A' N' : ℕ} {a : (⟨2, ![A, K]⟩ : Shape).Idx → EReal} {b : (⟨2, ![K, N]⟩ : Shape).Idx → EReal}
    {a' : (⟨2, ![A', K]⟩ : Shape).Idx → EReal} {b' : (⟨2, ![K, N']⟩ : Shape).Idx → EReal}
    {i : (⟨2, ![A, N]⟩ : Shape).Idx} {i' : (⟨2, ![A', N']⟩ : Shape).Idx}
    (ha : ∀ k : Fin K, a (ix2 (i 0) k) = a' (ix2 (i' 0) k)) (hb : ∀ k : Fin K, b (ix2 k (i 1)) = b' (ix2 k (i' 1))) : mm a b i = mm a' b' i' :=
  Finset.sum_congr rfl fun k _ => congrArg₂ _ (ha k) (hb k)

/-! ## What a point stores -/

theorem prod0 (a : Vec Ideal S1024x4096 .bf16) (b : Vec Ideal S4096x128 .bf16) (i : S1024x128.Idx) :
    (k0_pay1 a b : FVec Ideal S1024x128 .bf16) i = mm (A := 1024) (K := 4096) (N := 128) a b i := by
  pointwise [k0_pay1]; rfl

theorem prod1 (a : Vec Ideal S1024x128 .bf16) (b : Vec Ideal S128x512 .bf16) (i : S1024x512.Idx) :
    (k1_pay1 a b : FVec Ideal S1024x512 .bf16) i = mm (A := 1024) (K := 128) (N := 512) a b i := by
  pointwise [k1_pay1]; rfl

theorem prod2 (a : Vec Ideal S1024x128 .bf16) (b : Vec Ideal S128x512 .bf16) (i : S1024x512.Idx) :
    (k2_pay1 a b : FVec Ideal S1024x512 .bf16) i = mm (A := 1024) (K := 128) (N := 512) a b i := prod1 a b i

theorem prod4 (a : Vec Ideal S1024x4096 .bf16) (b : Vec Ideal S4096x512 .bf16) (i : S1024x512.Idx) :
    (k4_pay1 a b : FVec Ideal S1024x512 .bf16) i = mm (A := 1024) (K := 4096) (N := 512) a b i := by
  pointwise [k4_pay1]; rfl

theorem prod5 (a : Vec Ideal S1024x4096 .bf16) (b : Vec Ideal S4096x512 .bf16) (i : S1024x512.Idx) :
    (k5_pay1 a b : FVec Ideal S1024x512 .bf16) i = mm (A := 1024) (K := 4096) (N := 512) a b i := prod4 a b i

theorem prod6 (a : Vec Ideal S1024x4096 .bf16) (b : Vec Ideal S4096x64 .bf16) (i : S1024x64.Idx) :
    (k6_pay1 a b : FVec Ideal S1024x64 .bf16) i = mm (A := 1024) (K := 4096) (N := 64) a b i := by
  pointwise [k6_pay1]; rfl

theorem prod8 (a : Vec Ideal S1024x4096 .bf16) (b : Vec Ideal S4096x512 .bf16) (i : S1024x512.Idx) :
    (k8_pay1 a b : FVec Ideal S1024x512 .f32) i = mm (A := 1024) (K := 4096) (N := 512) a b i := by
  pointwise [k8_pay1]; rfl

variable (V : (c : Dev nD) → (b : Ref sig .tc) → Buf (Elt Ideal) ((c : Thread nD τ).loc b)) (D : Dev nD → CellTallies nD τ sig ℕ)

theorem at0 (c : Dev nD) (t : Fin cfg0.N) :
    (K0.outsAt0 (Ix := ℕ) (U := UU) (Lvl := ℕ) 𝒱₀ V c t : Vec Ideal S1024x128 .bf16) = k0_pay1 (K0.iblk V c 0 t) (K0.iblk V c 1 t) := by
  unfold K0.outsAt0 K0.out0_A_2
  refine (View.read_writes_full _ _ _ _ _).trans ?_
  rw [View.readAt_full, View.readAt_full, Memref.IsWhole.read_unread, Memref.IsWhole.read_unread]

theorem at1 (c : Dev nD) (t : Fin cfg1.N) :
    (K1.outsAt1 (Ix := ℕ) (U := UU) (Lvl := ℕ) 𝒱₀ V c t : Vec Ideal S1024x512 .bf16) = k1_pay1 (K1.iblk V c 0 t) (K1.iblk V c 1 t) := by
  unfold K1.outsAt1 K1.out1_A_2
  refine (View.read_writes_full _ _ _ _ _).trans ?_
  rw [View.readAt_full, View.readAt_full, Memref.IsWhole.read_unread, Memref.IsWhole.read_unread]

theorem at2 (c : Dev nD) (t : Fin cfg2.N) :
    (K2.outsAt2 (Ix := ℕ) (U := UU) (Lvl := ℕ) 𝒱₀ V c t : Vec Ideal S1024x512 .bf16) = k2_pay1 (K2.iblk V c 0 t) (K2.iblk V c 1 t) := by
  unfold K2.outsAt2 K2.out2_A_2
  refine (View.read_writes_full _ _ _ _ _).trans ?_
  rw [View.readAt_full, View.readAt_full, Memref.IsWhole.read_unread, Memref.IsWhole.read_unread]

theorem at4 (c : Dev nD) (t : Fin cfg4.N) :
    (K4.outsAt4 (Ix := ℕ) (U := UU) (Lvl := ℕ) 𝒱₀ V c t : Vec Ideal S1024x512 .bf16) = k4_pay1 (K4.iblk V c 0 t) (K4.iblk V c 1 t) := by
  unfold K4.outsAt4 K4.out4_A_2
  refine (View.read_writes_full _ _ _ _ _).trans ?_
  rw [View.readAt_full, View.readAt_full, Memref.IsWhole.read_unread, Memref.IsWhole.read_unread]

theorem at5 (c : Dev nD) (t : Fin cfg5.N) :
    (K5.outsAt5 (Ix := ℕ) (U := UU) (Lvl := ℕ) 𝒱₀ V c t : Vec Ideal S1024x512 .bf16) = k5_pay1 (K5.iblk V c 0 t) (K5.iblk V c 1 t) := by
  unfold K5.outsAt5 K5.out5_A_2
  refine (View.read_writes_full _ _ _ _ _).trans ?_
  rw [View.readAt_full, View.readAt_full, Memref.IsWhole.read_unread, Memref.IsWhole.read_unread]

theorem at6 (c : Dev nD) (t : Fin cfg6.N) :
    (K6.outsAt6 (Ix := ℕ) (U := UU) (Lvl := ℕ) 𝒱₀ V c t : Vec Ideal S1024x64 .bf16) = k6_pay1 (K6.iblk V c 0 t) (K6.iblk V c 1 t) := by
  unfold K6.outsAt6 K6.out6_A_2
  refine (View.read_writes_full _ _ _ _ _).trans ?_
  rw [View.readAt_full, View.readAt_full, Memref.IsWhole.read_unread, Memref.IsWhole.read_unread]

theorem at8 (c : Dev nD) (t : Fin cfg8.N) :
    (K8.outsAt8 (Ix := ℕ) (U := UU) (Lvl := ℕ) 𝒱₀ V c t : Vec Ideal S1024x512 .f32) = k8_pay1 (K8.iblk V c 0 t) (K8.iblk V c 1 t) := by
  unfold K8.outsAt8 K8.out8_A_2
  refine (View.read_writes_full _ _ _ _ _).trans ?_
  rw [View.readAt_full, View.readAt_full, Memref.IsWhole.read_unread, Memref.IsWhole.read_unread]

/-! ## The arrays -/

theorem w0_0 : ∀ t : Fin cfg0.N, win0_0.index t = ![0, 0] := (by decide +kernel : ∀ t : Fin grid0.N, _)
theorem w0_1 : ∀ t : Fin cfg0.N, win0_1.index t = ![0, t.val] := (by decide +kernel : ∀ t : Fin grid0.N, _)
theorem w0_2 : ∀ t : Fin cfg0.N, win0_2.index t = ![0, t.val] := (by decide +kernel : ∀ t : Fin grid0.N, _)

theorem arr0 (c : Dev nD) : (K0.dat (Ix := ℕ) (U := UU) (Lvl := ℕ) 𝒱₀ V D c).arrAt 2 cfg0.N
    = mm (A := 1024) (K := 4096) (N := 128) (V c main_v1) (V c main_arg1) := by
  refine (K0.dat 𝒱₀ V D c).arrAt_eq_of_covers 2 _ (by decide +kernel) fun t _ y => ?_
  blk_simp
  rw [K0.after0_2, at0, prod0]
  refine mm_at (fun k => congrArg (V c main_v1) ?_) (fun k => congrArg (V c main_arg1) ?_)
  · blk_ext [w0_0, w0_2]
  · blk_ext [w0_1, w0_2]

theorem w1_0 : ∀ t : Fin cfg1.N, win1_0.index t = ![0, 0] := (by decide +kernel : ∀ t : Fin grid1.N, _)
theorem w1_1 : ∀ t : Fin cfg1.N, win1_1.index t = ![0, t.val] := (by decide +kernel : ∀ t : Fin grid1.N, _)
theorem w1_2 : ∀ t : Fin cfg1.N, win1_2.index t = ![0, t.val] := (by decide +kernel : ∀ t : Fin grid1.N, _)

theorem arr1 (c : Dev nD) : (K1.dat (Ix := ℕ) (U := UU) (Lvl := ℕ) 𝒱₀ V D c).arrAt 2 cfg1.N
    = mm (A := 1024) (K := 128) (N := 4096) (V c main_v2) (V c main_arg2) := by
  refine (K1.dat 𝒱₀ V D c).arrAt_eq_of_covers 2 _ (by decide +kernel) fun t _ y => ?_
  blk_simp
  rw [K1.after1_2, at1, prod1]
  refine mm_at (fun k => congrArg (V c main_v2) ?_) (fun k => congrArg (V c main_arg2) ?_)
  · blk_ext [w1_0, w1_2]
  · blk_ext [w1_1, w1_2]

theorem w2_0 : ∀ t : Fin cfg2.N, win2_0.index t = ![0, 0] := (by decide +kernel : ∀ t : Fin grid2.N, _)
theorem w2_1 : ∀ t : Fin cfg2.N, win2_1.index t = ![0, t.val] := (by decide +kernel : ∀ t : Fin grid2.N, _)
theorem w2_2 : ∀ t : Fin cfg2.N, win2_2.index t = ![0, t.val] := (by decide +kernel : ∀ t : Fin grid2.N, _)

theorem arr2 (c : Dev nD) : (K2.dat (Ix := ℕ) (U := UU) (Lvl := ℕ) 𝒱₀ V D c).arrAt 2 cfg2.N
    = mm (A := 1024) (K := 128) (N := 4096) (V c main_v2) (V c main_arg3) := by
  refine (K2.dat 𝒱₀ V D c).arrAt_eq_of_covers 2 _ (by decide +kernel) fun t _ y => ?_
  blk_simp
  rw [K2.after2_2, at2, prod2]
  refine mm_at (fun k => congrArg (V c main_v2) ?_) (fun k => congrArg (V c main_arg3) ?_)
  · blk_ext [w2_0, w2_2]
  · blk_ext [w2_1, w2_2]

theorem w4_0 : ∀ t : Fin cfg4.N, win4_0.index t = ![0, 0] := (by decide +kernel : ∀ t : Fin grid4.N, _)
theorem w4_1 : ∀ t : Fin cfg4.N, win4_1.index t = ![0, t.val] := (by decide +kernel : ∀ t : Fin grid4.N, _)
theorem w4_2 : ∀ t : Fin cfg4.N, win4_2.index t = ![0, t.val] := (by decide +kernel : ∀ t : Fin grid4.N, _)

theorem arr4 (c : Dev nD) : (K4.dat (Ix := ℕ) (U := UU) (Lvl := ℕ) 𝒱₀ V D c).arrAt 2 cfg4.N
    = mm (A := 1024) (K := 4096) (N := 4096) (V c main_v1) (V c main_arg4) := by
  refine (K4.dat 𝒱₀ V D c).arrAt_eq_of_covers 2 _ (by decide +kernel) fun t _ y => ?_
  blk_simp
  rw [K4.after4_2, at4, prod4]
  refine mm_at (fun k => congrArg (V c main_v1) ?_) (fun k => congrArg (V c main_arg4) ?_)
  · blk_ext [w4_0, w4_2]
  · blk_ext [w4_1, w4_2]

theorem w5_0 : ∀ t : Fin cfg5.N, win5_0.index t = ![0, 0] := (by decide +kernel : ∀ t : Fin grid5.N, _)
theorem w5_1 : ∀ t : Fin cfg5.N, win5_1.index t = ![0, t.val] := (by decide +kernel : ∀ t : Fin grid5.N, _)
theorem w5_2 : ∀ t : Fin cfg5.N, win5_2.index t = ![0, t.val] := (by decide +kernel : ∀ t : Fin grid5.N, _)

theorem arr5 (c : Dev nD) : (K5.dat (Ix := ℕ) (U := UU) (Lvl := ℕ) 𝒱₀ V D c).arrAt 2 cfg5.N
    = mm (A := 1024) (K := 4096) (N := 2048) (V c main_v1) (V c main_arg5) := by
  refine (K5.dat 𝒱₀ V D c).arrAt_eq_of_covers 2 _ (by decide +kernel) fun t _ y => ?_
  blk_simp
  rw [K5.after5_2, at5, prod5]
  refine mm_at (fun k => congrArg (V c main_v1) ?_) (fun k => congrArg (V c main_arg5) ?_)
  · blk_ext [w5_0, w5_2]
  · blk_ext [w5_1, w5_2]

theorem w6_0 : ∀ t : Fin cfg6.N, win6_0.index t = ![0, 0] := (by decide +kernel : ∀ t : Fin grid6.N, _)
theorem w6_1 : ∀ t : Fin cfg6.N, win6_1.index t = ![0, t.val] := (by decide +kernel : ∀ t : Fin grid6.N, _)
theorem w6_2 : ∀ t : Fin cfg6.N, win6_2.index t = ![0, t.val] := (by decide +kernel : ∀ t : Fin grid6.N, _)

theorem arr6 (c : Dev nD) : (K6.dat (Ix := ℕ) (U := UU) (Lvl := ℕ) 𝒱₀ V D c).arrAt 2 cfg6.N
    = mm (A := 1024) (K := 4096) (N := 64) (V c main_v1) (V c main_arg6) := by
  refine (K6.dat 𝒱₀ V D c).arrAt_eq_of_covers 2 _ (by decide +kernel) fun t _ y => ?_
  blk_simp
  rw [K6.after6_2, at6, prod6]
  refine mm_at (fun k => congrArg (V c main_v1) ?_) (fun k => congrArg (V c main_arg6) ?_)
  · blk_ext [w6_0, w6_2]
  · blk_ext [w6_1, w6_2]

theorem w8_0 : ∀ t : Fin cfg8.N, win8_0.index t = ![0, 0] := (by decide +kernel : ∀ t : Fin grid8.N, _)
theorem w8_1 : ∀ t : Fin cfg8.N, win8_1.index t = ![0, t.val] := (by decide +kernel : ∀ t : Fin grid8.N, _)
theorem w8_2 : ∀ t : Fin cfg8.N, win8_2.index t = ![0, t.val] := (by decide +kernel : ∀ t : Fin grid8.N, _)

theorem arr8 (c : Dev nD) : (K8.dat (Ix := ℕ) (U := UU) (Lvl := ℕ) 𝒱₀ V D c).arrAt 2 cfg8.N
    = mm (A := 1024) (K := 4096) (N := 4096) (V c main_v13) (V c main_arg7) := by
  refine (K8.dat 𝒱₀ V D c).arrAt_eq_of_covers 2 _ (by decide +kernel) fun t _ y => ?_
  blk_simp
  rw [K8.after8_2, at8, prod8]
  refine mm_at (fun k => congrArg (V c main_v13) ?_) (fun k => congrArg (V c main_arg7) ?_)
  · blk_ext [w8_0, w8_2]
  · blk_ext [w8_1, w8_2]

end Cert.KernelIdeal.Talk

end
-- ==== Proof.KernelIdeal.AttnValue.lean ====
/-
  At the ideal instance the attention call leaves, row by row, the softmax-weighted sums of its values.
-/
module

public import proofs.«01_k».proof.Proof.KernelIdeal.Attn
public import Idealize.ShloMosaic.Lib.Pointwise
public import Idealize.ShloMosaic.Lib.Pipeline.ValueKit
public import Idealize.ShloMosaic.PureOps.Ideal

@[expose] public section

noncomputable section

namespace Cert.KernelIdeal.Talk

open Cert.KernelIdeal Cert.KernelIdeal.Gen

open Idealize.ShloMosaic Idealize.ShloMosaic.TcCoe

/-! ## One row -/

/-- A query's score at a key: the two inner products added, scaled. -/
def score (q k : Fin 128 → EReal) (qr kr : Fin 64 → EReal) : EReal := (∑ d, q d * k d + ∑ d, qr d * kr d) * Ideal.ofBits .f32 0x3D93CD3A#32

/-- The softmax of a row of scores, at a key. -/
def soft (s : Fin 256 → EReal) (t : Fin 256) : EReal :=
  Ideal.div (Ideal.exp (s t - Finset.univ.fold max (Ideal.ofBits .f32 0xFF800000#32) s)) (∑ u, Ideal.exp (s u - Finset.univ.fold max (Ideal.ofBits .f32 0xFF800000#32) s))

/-- The values weighted by the softmax of the scores. -/
def att (s v : Fin 256 → EReal) : EReal := ∑ t, soft s t * v t

theorem score_at {q k q' k' : Fin 128 → EReal} {qr kr qr' kr' : Fin 64 → EReal} (h1 : ∀ d, q d = q' d) (h2 : ∀ d, k d = k' d)
    (h3 : ∀ d, qr d = qr' d) (h4 : ∀ d, kr d = kr' d) : score q k qr kr = score q' k' qr' kr' := by
  rw [funext h1, funext h2, funext h3, funext h4]

theorem att_at {s s' v v' : Fin 256 → EReal} (h1 : ∀ t, s t = s' t) (h2 : ∀ t, v t = v' t) : att s v = att s' v' := by
  rw [funext h1, funext h2]

/-- What a point stores, entry by entry. -/
theorem pay7 (q : Vec Ideal S256x128 .bf16) (k v : Vec Ideal S1x256x128 .bf16) (qr : Vec Ideal S1x1x256x64 .bf16) (kr : Vec Ideal S256x64 .bf16) (i : S256x128.Idx) :
    (k7_pay1 q k v qr kr : FVec Ideal S256x128 .bf16) i
      = att (fun t => score (fun d => q (ix2 (i 0) d)) (fun d => k (ix3 0 t d)) (fun d => qr (ix4 0 0 (i 0) d)) (fun d => kr (ix2 t d)))
          (fun t => v (ix3 0 t (i 1))) := by
  pointwise [k7_pay1]
  rfl

/-! ## The array -/

/-- The attention of a whole array: row `b·256 + s`, column `h·128 + d` is head `h`, query `s` of batch `b`. The keys of batch `b` are
    rows `b·256 …` of the first half of `kv`, the values those of the second half. -/
def attn (kv : S4x512x4096.Idx → EReal) (q : S1024x4096.Idx → EReal) (qr : S4x32x256x64.Idx → EReal) (kr : S1024x64.Idx → EReal) (i : S1024x4096.Idx) : EReal :=
  have h0 : (i 0).val < 1024 := (i 0).isLt
  have h1 : (i 1).val < 4096 := (i 1).isLt
  att (fun t => score (fun d => q (ix2 ⟨(i 0).val, h0⟩ ⟨(i 1).val / 128 * 128 + d.val, by omega⟩))
      (fun d => kv (ix3 ⟨(i 0).val / 512, by omega⟩ ⟨(i 0).val / 256 % 2 * 256 + t.val, by omega⟩ ⟨(i 1).val / 128 * 128 + d.val, by omega⟩))
      (fun d => qr (ix4 ⟨(i 0).val / 256, by omega⟩ ⟨(i 1).val / 128, by omega⟩ ⟨(i 0).val % 256, by omega⟩ d))
      (fun d => kr (ix2 ⟨(i 0).val / 256 * 256 + t.val, by omega⟩ d)))
    (fun t => kv (ix3 ⟨2 + (i 0).val / 512, by omega⟩ ⟨(i 0).val / 256 % 2 * 256 + t.val, by omega⟩ ⟨(i 1).val, h1⟩))

theorem w7_0 : ∀ t : Fin cfg7.N, win7_0.index t = ![t.val / 64, t.val / 32 % 2, t.val % 32] := (by decide +kernel : ∀ t : Fin grid7.N, _)
theorem w7_1 : ∀ t : Fin cfg7.N, win7_1.index t = ![2 + t.val / 64, t.val / 32 % 2, t.val % 32] := (by decide +kernel : ∀ t : Fin grid7.N, _)
theorem w7_2 : ∀ t : Fin cfg7.N, win7_2.index t = ![t.val / 32, t.val % 32] := (by decide +kernel : ∀ t : Fin grid7.N, _)
theorem w7_3 : ∀ t : Fin cfg7.N, win7_3.index t = ![t.val / 32, t.val % 32, 0, 0] := (by decide +kernel : ∀ t : Fin grid7.N, _)
theorem w7_4 : ∀ t : Fin cfg7.N, win7_4.index t = ![t.val / 32, 0] := (by decide +kernel : ∀ t : Fin grid7.N, _)
theorem w7_5 : ∀ t : Fin cfg7.N, win7_5.index t = ![t.val / 32, t.val % 32] := (by decide +kernel : ∀ t : Fin grid7.N, _)

variable (V : (c : Dev nD) → (b : Ref sig .tc) → Buf (Elt Ideal) ((c : Thread nD τ).loc b))

theorem arr7 (c : Dev nD) : (dat7 V c).arrAt 5 cfg7.N = attn (V c main_v7) (V c main_v8) (V c main_v11) (V c main_v12) := by
  refine (dat7 V c).arrAt_eq_of_covers 5 (attn (V c main_v7) (V c main_v8) (V c main_v11) (V c main_v12)) (by decide +kernel) fun t _ y => ?_
  blk_simp
  refine (show (dat7 V c).after 5 t y = attnAt V c t y from rfl).trans ((pay7 _ _ _ _ _ y).trans ?_)
  unfold attn
  refine att_at (fun u => score_at (fun d => congrArg (V c main_v8) ?_) (fun d => congrArg (V c main_v7) ?_) (fun d => congrArg (V c main_v11) ?_)
    (fun d => congrArg (V c main_v12) ?_)) (fun u => congrArg (V c main_v7) ?_)
  · blk_ext [w7_2, w7_5]
  · blk_ext [w7_0, w7_5]
  · blk_ext [w7_3, w7_5]
  · blk_ext [w7_4, w7_5]
  · blk_ext [w7_1, w7_5]

end Cert.KernelIdeal.Talk

end
-- ==== Proof.KernelIdeal.Value.lean ====
/-
  At the ideal instance: what the ring leaves is the sum over the four devices of its ring, what every buffer of the program holds
  in terms of the whole arguments, and so what the program's result is.
-/
module

public import proofs.«01_k».proof.Proof.KernelIdeal.Mat
public import proofs.«01_k».proof.Proof.KernelIdeal.AttnValue
public import Idealize.ShloMosaic.Lib.Layout
public import Idealize.ShloMosaic.Lib.StableHlo.Run

@[expose] public section

noncomputable section

namespace Cert.KernelIdeal.Talk

open Cert.KernelIdeal Cert.KernelIdeal.Gen Cert.KernelIdeal.Own

open Idealize.ShloMosaic Idealize.ShloMosaic.TcCoe

/-! ## The ring -/

section Ring
variable {F : FTy → Type} [FloatOps F] (X : Dev nD → Vec F S4x512x4096 .bf16)

/-- After three hops a device's own block has met the three others, nearest first. -/
theorem val_three (d : Dev nD) : val X 3 d = add1 (X d) (add1 (X (prv d)) (add1 (X (prv (prv d))) (X (prv (prv (prv d)))))) := by
  rw [val_sum X d (show 2 < 3 by decide), val_sum X _ (show 1 < 3 by decide), val_sum X _ (show 0 < 3 by decide)]
  rfl

/-- Later hops only pass the sum on. -/
theorem val_later (t : ℕ) (c : Dev nD) : ∃ d, val X (3 + t) c = val X 3 d := by
  induction t generalizing c with
  | zero => exact ⟨c, rfl⟩
  | succ t ih =>
    obtain ⟨d, hd⟩ := ih (prv c)
    exact ⟨d, by rw [← hd]; show (if 3 + t < 3 then _ else _) = _; rw [if_neg (by omega)]; rfl⟩
end Ring

/-- Four terms met in turn, from any start, are all four. -/
theorem four_turn (f : Fin 4 → EReal) (y : Fin 4) : f y + (f (y + 3) + (f (y + 3 + 3) + f (y + 3 + 3 + 3))) = f 0 + f 1 + f 2 + f 3 := by
  match y with
  | 0 => show f 0 + (f 3 + (f 2 + f 1)) = _; ac_rfl
  | 1 => show f 1 + (f 0 + (f 3 + f 2)) = _; ac_rfl
  | 2 => show f 2 + (f 1 + (f 0 + f 3)) = _; ac_rfl
  | 3 => show f 3 + (f 2 + (f 1 + f 0)) = _; ac_rfl

/-- What the ring leaves is the sum, on every device, when a device's operand depends on its place in the ring only. -/
theorem ring_sum (X : Dev nD → Vec Ideal S4x512x4096 .bf16) (g : Fin 4 → S4x512x4096.Idx → EReal)
    (hX : ∀ c i, X c i = g ⟨yOf c, yOf_lt c⟩ i) (c : Dev nD) (i : S4x512x4096.Idx) : Y X c i = ∑ k : Fin 4, g k i := by
  obtain ⟨d, hd⟩ := val_later X ((yOf c + 5 - (i 0).val) % 4) c
  show val X (3 + (yOf c + 5 - (i 0).val) % 4) c i = _
  rw [hd, val_three]
  show (X d i + (X (prv d) i + (X (prv (prv d)) i + X (prv (prv (prv d))) i)) : EReal) = ∑ k : Fin 4, g k i
  rw [hX, hX, hX, hX, Fin.sum_univ_four]
  have h1 : (⟨yOf (prv d), yOf_lt _⟩ : Fin 4) = ⟨yOf d, yOf_lt _⟩ + 3 := Fin.ext (yOf_prv d)
  have h2 : (⟨yOf (prv (prv d)), yOf_lt _⟩ : Fin 4) = ⟨yOf (prv d), yOf_lt _⟩ + 3 := Fin.ext (yOf_prv _)
  have h3 : (⟨yOf (prv (prv (prv d))), yOf_lt _⟩ : Fin 4) = ⟨yOf (prv (prv d)), yOf_lt _⟩ + 3 := Fin.ext (yOf_prv _)
  rw [h3, h2, h1]
  exact four_turn (fun k => g k i) ⟨yOf d, yOf_lt d⟩

/-! ## The mathematics, on the whole arguments -/

/-- The activations times a weight. -/
def proj {N : ℕ} (X : S4x256x4096.Idx → EReal) (W : (⟨2, ![4096, N]⟩ : Shape).Idx → EReal) (b : Fin 4) (s : Fin 256) (n : Fin N) : EReal :=
  ∑ x : Fin 4096, X (ix3 b s x) * W (ix2 x n)

/-- The latent rows times an up-projection. -/
def up (X : S4x256x4096.Idx → EReal) (Wd : (⟨2, ![4096, 512]⟩ : Shape).Idx → EReal) (Wu : (⟨2, ![512, 4096]⟩ : Shape).Idx → EReal)
    (b : Fin 4) (s : Fin 256) (n : Fin 4096) : EReal :=
  ∑ j : Fin 512, proj X Wd b s j * Wu (ix2 j n)

/-- Place `j` of part `k` of the latent axis. -/
def lane (k : Fin 4) (j : Fin 128) : Fin 512 := ⟨k.val * 128 + j.val, by omega⟩

/-- A quarter of the latent axis's share of the up-projection. -/
def part (X : S4x256x4096.Idx → EReal) (Wd : (⟨2, ![4096, 512]⟩ : Shape).Idx → EReal) (Wu : (⟨2, ![512, 4096]⟩ : Shape).Idx → EReal)
    (k : Fin 4) (b : Fin 4) (s : Fin 256) (n : Fin 4096) : EReal :=
  ∑ j : Fin 128, proj X Wd b s (lane k j) * Wu (ix2 (lane k j) n)

/-- The four shares are the whole. -/
theorem sum_part (X : S4x256x4096.Idx → EReal) (Wd : (⟨2, ![4096, 512]⟩ : Shape).Idx → EReal) (Wu : (⟨2, ![512, 4096]⟩ : Shape).Idx → EReal)
    (b : Fin 4) (s : Fin 256) (n : Fin 4096) : ∑ k : Fin 4, part X Wd Wu k b s n = up X Wd Wu b s n :=
  Fin.sum_mul_add_fin 4 128 (fun j : Fin 512 => proj X Wd b s j * Wu (ix2 j n))

/-- Column `x`'s head and place `d` of that head's columns. -/
def col (x : Fin 4096) (d : Fin 128) : Fin 4096 := ⟨x.val / 128 * 128 + d.val, by omega⟩
def rcol (x : Fin 4096) (d : Fin 64) : Fin 2048 := ⟨x.val / 128 * 64 + d.val, by omega⟩

/-- Row `(b, s)`, column `x` of the heads' outputs. -/
def ctx (X : S4x256x4096.Idx → EReal) (Wd : (⟨2, ![4096, 512]⟩ : Shape).Idx → EReal) (Wuk Wuv : (⟨2, ![512, 4096]⟩ : Shape).Idx → EReal)
    (Wq : (⟨2, ![4096, 4096]⟩ : Shape).Idx → EReal) (Wqr : (⟨2, ![4096, 2048]⟩ : Shape).Idx → EReal)
    (Wkr : (⟨2, ![4096, 64]⟩ : Shape).Idx → EReal) (b : Fin 4) (s : Fin 256) (x : Fin 4096) : EReal :=
  att (fun t => score (fun d => proj X Wq b s (col x d)) (fun d => up X Wd Wuk b t (col x d)) (fun d => proj X Wqr b s (rcol x d)) (fun d => proj X Wkr b t d))
    (fun t => up X Wd Wuv b t x)

/-- The layer's output. -/
def layer (X : S4x256x4096.Idx → EReal) (Wd : (⟨2, ![4096, 512]⟩ : Shape).Idx → EReal) (Wuk Wuv : (⟨2, ![512, 4096]⟩ : Shape).Idx → EReal)
    (Wq : (⟨2, ![4096, 4096]⟩ : Shape).Idx → EReal) (Wqr : (⟨2, ![4096, 2048]⟩ : Shape).Idx → EReal)
    (Wkr : (⟨2, ![4096, 64]⟩ : Shape).Idx → EReal) (Wo : (⟨2, ![4096, 4096]⟩ : Shape).Idx → EReal) (i : S4x256x4096.Idx) : EReal :=
  ∑ x : Fin 4096, ctx X Wd Wuk Wuv Wq Wqr Wkr (i 0) (i 1) x * Wo (ix2 x (i 2))

/-- A row of the flat arrays, as batch and position. -/
def bOf (r : Fin 1024) : Fin 4 := ⟨r.val / 256, by omega⟩
def sOf (r : Fin 1024) : Fin 256 := ⟨r.val % 256, by omega⟩

/-- A product of the flat activations is a product of the activations. -/
theorem mm_proj {N : ℕ} (X : S4x256x4096.Idx → EReal) (W : (⟨2, ![4096, N]⟩ : Shape).Idx → EReal) (a : (⟨2, ![1024, 4096]⟩ : Shape).Idx → EReal)
    (ha : ∀ r x, a (ix2 r x) = X (ix3 (bOf r) (sOf r) x)) (r : Fin 1024) (n : Fin N) : mm a W (ix2 r n) = proj X W (bOf r) (sOf r) n :=
  Finset.sum_congr rfl fun x _ => congrArg (· * W (ix2 x n)) (ha r x)

/-! ## What the buffers keep -/

section Keep
variable {F : FTy → Type} [FloatOps F] (m : (ℓ : Loc nD τ sig) → Buf (Elt F) ℓ) (o : Outs (F := F)) (c : Dev nD)

/-- The eight arguments. -/
def argRef : Fin 8 → Ref sig .tc := ![main_arg0, main_arg1, main_arg2, main_arg3, main_arg4, main_arg5, main_arg6, main_arg7]

theorem V1_arg (k : Fin 8) : V1 m c (argRef k) = m ((c : Thread nD τ).loc (argRef k)) := V1_of m c _ (by revert k; decide)
theorem V2_arg (k : Fin 8) : V2 m o c (argRef k) = m ((c : Thread nD τ).loc (argRef k)) := (V2_of m o c _ (by revert k; decide)).trans (V1_arg m c k)
theorem V3_arg (k : Fin 8) : V3 m o c (argRef k) = m ((c : Thread nD τ).loc (argRef k)) := (V3_of m o c _ (by revert k; decide)).trans (V2_arg m o c k)
theorem V6_arg (k : Fin 8) : V6 m o c (argRef k) = m ((c : Thread nD τ).loc (argRef k)) :=
  (V6_of m o c _ (by revert k; decide)).trans ((V5_of m o c _ (by revert k; decide)).trans ((V4_of m o c _ (by revert k; decide)).trans (V3_arg m o c k)))
theorem V7_arg (k : Fin 8) : V7 m o c (argRef k) = m ((c : Thread nD τ).loc (argRef k)) := (V7_of m o c _ (by revert k; decide)).trans (V6_arg m o c k)
theorem V9_arg (k : Fin 8) : V9 m o c (argRef k) = m ((c : Thread nD τ).loc (argRef k)) :=
  (V9_of m o c _ (by revert k; decide)).trans ((V8_of m o c _ (by revert k; decide)).trans (V7_arg m o c k))
theorem V11_arg (k : Fin 8) : V11 m o c (argRef k) = m ((c : Thread nD τ).loc (argRef k)) :=
  (V11_of m o c _ (by revert k; decide)).trans ((V10_of m o c _ (by revert k; decide)).trans (V9_arg m o c k))

theorem V6_v1 : V6 m o c main_v1 = V1 m c main_v1 :=
  (V6_of m o c _ (by decide)).trans ((V5_of m o c _ (by decide)).trans ((V4_of m o c _ (by decide)).trans ((V3_of m o c _ (by decide)).trans (V2_of m o c _ (by decide)))))
theorem V7_v1 : V7 m o c main_v1 = V1 m c main_v1 := (V7_of m o c _ (by decide)).trans (V6_v1 m o c)
theorem V9_v1 : V9 m o c main_v1 = V1 m c main_v1 := (V9_of m o c _ (by decide)).trans ((V8_of m o c _ (by decide)).trans (V7_v1 m o c))
end Keep

end Cert.KernelIdeal.Talk

end
-- ==== Proof.KernelIdeal.Layer.lean ====
/-
  At the ideal instance the program's result is the layer's output on the whole arguments.
-/
module

public import proofs.«01_k».proof.Proof.KernelIdeal.Value

@[expose] public section

noncomputable section

namespace Cert.KernelIdeal.Talk

open Cert.KernelIdeal Cert.KernelIdeal.Gen Cert.KernelIdeal.Own

open Idealize.ShloMosaic Idealize.ShloMosaic.TcCoe

/-! ## The host's operations -/

section Host
variable {F : FTy → Type} [FloatOps F] (W : Valuation τ sig (Elt F))

theorem host0 : (StableHlo.after hostOps0 W main_v1 : Vec F S1024x4096 .bf16)
    = shapeCast S1024x4096 (W main_arg0 : Vec F S4x256x4096 .bf16) shapeCasts_S4x256x4096_S1024x4096 := by
  unfold hostOps0
  rw [StableHlo.after_cons, StableHlo.after_nil, StableHlo.reshape_result]
  rfl

theorem host3 : (StableHlo.after hostOps3 W main_v6 : Vec F S4x512x4096 .bf16)
    = shapeCast S4x512x4096 (concatenate S2048x4096 0 [⟨S1024x4096, (W main_v3 : Vec F S1024x4096 .bf16)⟩, ⟨S1024x4096, (W main_v4 : Vec F S1024x4096 .bf16)⟩]
        concatenates_S1024x4096_S1024x4096_S2048x4096_d0) shapeCasts_S2048x4096_S4x512x4096 := by
  unfold hostOps3
  rw [StableHlo.after_cons, StableHlo.after_cons, StableHlo.after_cons, StableHlo.after_nil, StableHlo.unary_result_ne (h := by decide),
    StableHlo.reshape_result, StableHlo.binary_result]
  rfl

theorem host6 : (StableHlo.after hostOps6 W main_v11 : Vec F S4x32x256x64 .bf16)
    = transpose S4x32x256x64 [0, 2, 1, 3] (shapeCast S4x256x32x64 (W main_v9 : Vec F S1024x2048 .bf16) shapeCasts_S1024x2048_S4x256x32x64)
        transposes_S4x256x32x64_S4x32x256x64_0_2_1_3 := by
  unfold hostOps6
  rw [StableHlo.after_cons, StableHlo.after_cons, StableHlo.after_nil, StableHlo.unary_result, StableHlo.reshape_result]
  rfl

theorem host9 : (StableHlo.after hostOps9 W main_v15 : Vec F S4x256x4096 .f32)
    = shapeCast S4x256x4096 (W main_v14 : Vec F S1024x4096 .f32) shapeCasts_S1024x4096_S4x256x4096 := by
  unfold hostOps9
  rw [StableHlo.after_cons, StableHlo.after_nil, StableHlo.reshape_result]
  rfl
end Host

/-! ## The buffers -/

/-- A product's entry from its row's and its column's entries. -/
theorem mm_sum {A K N : ℕ} {a : (⟨2, ![A, K]⟩ : Shape).Idx → EReal} {b : (⟨2, ![K, N]⟩ : Shape).Idx → EReal} {r : Fin A} {n : Fin N} (f g : Fin K → EReal)
    (ha : ∀ k, a (ix2 r k) = f k) (hb : ∀ k, b (ix2 k n) = g k) : mm a b (ix2 r n) = ∑ k, f k * g k :=
  Finset.sum_congr rfl fun k _ => congrArg₂ (· * ·) (ha k) (hb k)

/-- The whole arguments. -/
structure Whole where
  X : S4x256x4096.Idx → EReal
  Wd : (⟨2, ![4096, 512]⟩ : Shape).Idx → EReal
  Wuk : (⟨2, ![512, 4096]⟩ : Shape).Idx → EReal
  Wuv : (⟨2, ![512, 4096]⟩ : Shape).Idx → EReal
  Wq : (⟨2, ![4096, 4096]⟩ : Shape).Idx → EReal
  Wqr : (⟨2, ![4096, 2048]⟩ : Shape).Idx → EReal
  Wkr : (⟨2, ![4096, 64]⟩ : Shape).Idx → EReal
  Wo : (⟨2, ![4096, 4096]⟩ : Shape).Idx → EReal

/-- A device's place in its ring. -/
def yIx (c : Dev nD) : Fin 4 := ⟨yOf c, yOf_lt c⟩

variable (m : (ℓ : Loc nD τ sig) → Buf (Elt Ideal) ℓ)

/-- The devices' arguments are their parts of the whole ones: the latent axis is cut in four along the ring, the rest is replicated. -/
structure Fits (w : Whole) : Prop where
  x : ∀ c : Dev nD, m ((c : Thread nD τ).loc main_arg0) = w.X
  wd : ∀ (c : Dev nD) (x : Fin 4096) (j : Fin 128), (m ((c : Thread nD τ).loc main_arg1) : S4096x128.Idx → EReal) (ix2 x j) = w.Wd (ix2 x (lane (yIx c) j))
  wuk : ∀ (c : Dev nD) (j : Fin 128) (n : Fin 4096), (m ((c : Thread nD τ).loc main_arg2) : S128x4096.Idx → EReal) (ix2 j n) = w.Wuk (ix2 (lane (yIx c) j) n)
  wuv : ∀ (c : Dev nD) (j : Fin 128) (n : Fin 4096), (m ((c : Thread nD τ).loc main_arg3) : S128x4096.Idx → EReal) (ix2 j n) = w.Wuv (ix2 (lane (yIx c) j) n)
  wq : ∀ c : Dev nD, m ((c : Thread nD τ).loc main_arg4) = w.Wq
  wqr : ∀ c : Dev nD, m ((c : Thread nD τ).loc main_arg5) = w.Wqr
  wkr : ∀ c : Dev nD, m ((c : Thread nD τ).loc main_arg6) = w.Wkr
  wo : ∀ c : Dev nD, m ((c : Thread nD τ).loc main_arg7) = w.Wo

theorem bOf_flat (r : Fin 1024) (b : Fin 4) (s : Fin 256) (e : r.val = b.val * 256 + s.val) : bOf r = b := Fin.ext (by show r.val / 256 = _; omega)
theorem sOf_flat (r : Fin 1024) (b : Fin 4) (s : Fin 256) (e : r.val = b.val * 256 + s.val) : sOf r = s := Fin.ext (by show r.val % 256 = _; omega)

/-- What the calls after theirs leave of the buffers the attention reads. -/
theorem v7_kept (c : Dev nD) : W10 m c main_v7 = W6 m c main_v7 :=
  (congrFun (congrFun (V10_eq m).symm c) _).trans ((V10_of m _ c _ (by decide)).trans ((V9_of m _ c _ (by decide)).trans ((V8_of m _ c _ (by decide)).trans
    ((V7_of m _ c _ (by decide)).trans (congrFun (congrFun (V6_eq m) c) _)))))
theorem v8_kept (c : Dev nD) : W10 m c main_v8 = W7 m c main_v8 :=
  (congrFun (congrFun (V10_eq m).symm c) _).trans ((V10_of m _ c _ (by decide)).trans ((V9_of m _ c _ (by decide)).trans ((V8_of m _ c _ (by decide)).trans
    (congrFun (congrFun (V7_eq m) c) _))))
theorem v11_kept (c : Dev nD) : W10 m c main_v11 = W9 m c main_v11 := Function.update_of_ne (StableHlo.devRef_ne_of_ne (by decide)) _ _
theorem v3_kept (c : Dev nD) : W4 m c main_v3 = W3 m c main_v3 := Function.update_of_ne (StableHlo.devRef_ne_of_ne (by decide)) _ _

variable {m} {w : Whole} (h : Fits m w) (c : Dev nD)
include h

/-- The flat activations. -/
theorem v1_val (r : Fin 1024) (x : Fin 4096) : (V1 m c main_v1 : S1024x4096.Idx → EReal) (ix2 r x) = w.X (ix3 (bOf r) (sOf r) x) := by
  rw [V1, host0, show V0 m c main_arg0 = w.X from h.x c]
  pointwise
  rfl

/-- The device's columns of the latent rows. -/
theorem v2_val (r : Fin 1024) (j : Fin 128) : (W2 m c main_v2 : S1024x128.Idx → EReal) (ix2 r j) = proj w.X w.Wd (bOf r) (sOf r) (lane (yIx c) j) := by
  rw [W2_self, o2, arr0]
  exact mm_sum _ _ (fun x => v1_val h c r x) (fun x => (congrFun (V1_arg m c 1) _).trans (h.wd c x j))

/-- The device's shares of the keys and of the values. -/
theorem v3_val (r : Fin 1024) (n : Fin 4096) : (W3 m c main_v3 : S1024x4096.Idx → EReal) (ix2 r n) = part w.X w.Wd w.Wuk (yIx c) (bOf r) (sOf r) n := by
  rw [W3_self, o3, arr1]
  exact mm_sum _ _ (fun j => v2_val h c r j) (fun j => (congrFun ((congrFun (congrFun (V2_eq m).symm c) _).trans (V2_arg m _ c 2)) _).trans (h.wuk c j n))

theorem v4_val (r : Fin 1024) (n : Fin 4096) : (W4 m c main_v4 : S1024x4096.Idx → EReal) (ix2 r n) = part w.X w.Wd w.Wuv (yIx c) (bOf r) (sOf r) n := by
  rw [W4_self, o4, arr2]
  refine mm_sum _ _ (fun j => ?_) (fun j => (congrFun ((congrFun (congrFun (V3_eq m).symm c) _).trans (V3_arg m _ c 3)) _).trans (h.wuv c j n))
  refine (congrFun ?_ _).trans (v2_val h c r j)
  exact (congrFun (congrFun (V3_eq m).symm c) _).trans ((V3_of m _ c _ (by decide)).trans (congrFun (congrFun (V2_eq m) c) _))

/-- A row of the stacked array, within its half. -/
def row (k : Fin 4) (s : Fin 512) : Fin 1024 := ⟨(k.val * 512 + s.val) % 1024, by omega⟩

/-- The ring's operand on a device: its shares of the keys, then those of the values. -/
theorem v6_val (i : S4x512x4096.Idx) : (W5 m c main_v6 : S4x512x4096.Idx → EReal) i
    = if (i 0).val < 2 then part w.X w.Wd w.Wuk (yIx c) (bOf (row (i 0) (i 1))) (sOf (row (i 0) (i 1))) (i 2)
      else part w.X w.Wd w.Wuv (yIx c) (bOf (row (i 0) (i 1))) (sOf (row (i 0) (i 1))) (i 2) := by
  rw [W5, host3]
  pointwise
  have h0 : (i 0).val < 4 := (i 0).isLt
  have h1 : (i 1).val < 512 := (i 1).isLt
  by_cases h2 : (i 0).val < 2
  · rw [dif_pos (show (i 0).val * 512 + (i 1).val < 1024 by omega), if_pos h2]
    refine (congrFun (v3_kept m c) _).trans ((congrArg (fun r => (W3 m c main_v3 : S1024x4096.Idx → EReal) (ix2 r (i 2)))
      (show _ = row (i 0) (i 1) from Fin.ext ?_)).trans (v3_val h c _ (i 2)))
    show (i 0).val * 512 + (i 1).val = ((i 0).val * 512 + (i 1).val) % 1024
    omega
  · rw [dif_neg (show ¬ (i 0).val * 512 + (i 1).val < 1024 by omega), if_neg h2]
    refine (congrArg (fun r => (W4 m c main_v4 : S1024x4096.Idx → EReal) (ix2 r (i 2))) (show _ = row (i 0) (i 1) from Fin.ext ?_)).trans (v4_val h c _ (i 2))
    show (i 0).val * 512 + (i 1).val - 1024 = ((i 0).val * 512 + (i 1).val) % 1024
    omega

/-- The ring's result, on every device: the keys, then the values. -/
theorem v7_val (i : S4x512x4096.Idx) : (W6 m c main_v7 : S4x512x4096.Idx → EReal) i
    = if (i 0).val < 2 then up w.X w.Wd w.Wuk (bOf (row (i 0) (i 1))) (sOf (row (i 0) (i 1))) (i 2)
      else up w.X w.Wd w.Wuv (bOf (row (i 0) (i 1))) (sOf (row (i 0) (i 1))) (i 2) := by
  rw [W6_self, ring_sum (opd (W5 m)) (fun k i => if (i 0).val < 2 then part w.X w.Wd w.Wuk k (bOf (row (i 0) (i 1))) (sOf (row (i 0) (i 1))) (i 2)
      else part w.X w.Wd w.Wuv k (bOf (row (i 0) (i 1))) (sOf (row (i 0) (i 1))) (i 2)) (fun c i => v6_val h c i)]
  split <;> exact sum_part _ _ _ _ _ _

/-- The flat activations, where the later calls read them. -/
theorem v1_at6 (r : Fin 1024) (x : Fin 4096) : (W6 m c main_v1 : S1024x4096.Idx → EReal) (ix2 r x) = w.X (ix3 (bOf r) (sOf r) x) :=
  (congrFun ((congrFun (congrFun (V6_eq m).symm c) _).trans (V6_v1 m _ c)) _).trans (v1_val h c r x)
theorem v1_at7 (r : Fin 1024) (x : Fin 4096) : (W7 m c main_v1 : S1024x4096.Idx → EReal) (ix2 r x) = w.X (ix3 (bOf r) (sOf r) x) :=
  (congrFun ((congrFun (congrFun (V7_eq m).symm c) _).trans (V7_v1 m _ c)) _).trans (v1_val h c r x)
theorem v1_at9 (r : Fin 1024) (x : Fin 4096) : (W9 m c main_v1 : S1024x4096.Idx → EReal) (ix2 r x) = w.X (ix3 (bOf r) (sOf r) x) :=
  (congrFun ((congrFun (congrFun (V9_eq m).symm c) _).trans (V9_v1 m _ c)) _).trans (v1_val h c r x)

/-- The queries, the queries' and the keys' second parts. -/
theorem v8_val (r : Fin 1024) (n : Fin 4096) : (W7 m c main_v8 : S1024x4096.Idx → EReal) (ix2 r n) = proj w.X w.Wq (bOf r) (sOf r) n := by
  rw [W7_self, o7, arr4]
  exact mm_sum _ _ (fun x => v1_at6 h c r x) (fun x => congrFun (((congrFun (congrFun (V6_eq m).symm c) _).trans (V6_arg m _ c 4)).trans (h.wq c)) _)
theorem v9_val (r : Fin 1024) (n : Fin 2048) : (W8 m c main_v9 : S1024x2048.Idx → EReal) (ix2 r n) = proj w.X w.Wqr (bOf r) (sOf r) n := by
  rw [W8_self, o8, arr5]
  exact mm_sum _ _ (fun x => v1_at7 h c r x) (fun x => congrFun (((congrFun (congrFun (V7_eq m).symm c) _).trans (V7_arg m _ c 5)).trans (h.wqr c)) _)
theorem v12_val (r : Fin 1024) (n : Fin 64) : (W10 m c main_v12 : S1024x64.Idx → EReal) (ix2 r n) = proj w.X w.Wkr (bOf r) (sOf r) n := by
  rw [W10_self, o10, arr6]
  exact mm_sum _ _ (fun x => v1_at9 h c r x) (fun x => congrFun (((congrFun (congrFun (V9_eq m).symm c) _).trans (V9_arg m _ c 6)).trans (h.wkr c)) _)

/-- The queries' second parts, head by head. -/
theorem v11_val (b : Fin 4) (a : Fin 32) (s : Fin 256) (d : Fin 64) : (W9 m c main_v11 : S4x32x256x64.Idx → EReal) (ix4 b a s d)
    = proj w.X w.Wqr b s ⟨a.val * 64 + d.val, by omega⟩ := by
  rw [W9, host6]
  pointwise
  refine (v9_val h c _ _).trans ?_
  rw [bOf_flat _ b s rfl, sOf_flat _ b s rfl]

/-- A key's or a value's entry, where the attention reads it. -/
theorem kv_val (k : Fin 4) (s : Fin 512) (n : Fin 4096) (b : Fin 4) (t : Fin 256) (e : (k.val * 512 + s.val) % 1024 = b.val * 256 + t.val) :
    (W10 m c main_v7 : S4x512x4096.Idx → EReal) (ix3 k s n) = if k.val < 2 then up w.X w.Wd w.Wuk b t n else up w.X w.Wd w.Wuv b t n := by
  refine (congrFun (v7_kept m c) _).trans ((v7_val h c _).trans ?_)
  show (if k.val < 2 then up w.X w.Wd w.Wuk (bOf (row k s)) (sOf (row k s)) n else up w.X w.Wd w.Wuv (bOf (row k s)) (sOf (row k s)) n) = _
  rw [bOf_flat (row k s) b t e, sOf_flat (row k s) b t e]

/-- The last product's reading, and the result's. -/
theorem v13_val (r : Fin 1024) (x : Fin 4096) : (W11 m c main_v13 : S1024x4096.Idx → EReal) (ix2 r x)
    = ctx w.X w.Wd w.Wuk w.Wuv w.Wq w.Wqr w.Wkr (bOf r) (sOf r) x := by
  rw [W11_self, o11, arr7]
  unfold attn ctx
  refine att_at (fun t => score_at (fun d => ?_) (fun d => ?_) (fun d => ?_) (fun d => ?_)) (fun t => ?_)
  · exact (congrFun (v8_kept m c) _).trans (v8_val h c r (col x d))
  · refine (kv_val h c _ _ _ (bOf r) t ?_).trans (if_pos ?_)
    · show (r.val / 512 * 512 + (r.val / 256 % 2 * 256 + t.val)) % 1024 = r.val / 256 * 256 + t.val
      omega
    · show r.val / 512 < 2
      omega
  · exact (congrFun (v11_kept m c) _).trans (v11_val h c (bOf r) ⟨x.val / 128, by omega⟩ (sOf r) d)
  · refine (v12_val h c _ d).trans ?_
    rw [bOf_flat _ (bOf r) t rfl, sOf_flat _ (bOf r) t rfl]
  · refine (kv_val h c _ _ _ (bOf r) t ?_).trans (if_neg ?_)
    · show ((2 + r.val / 512) * 512 + (r.val / 256 % 2 * 256 + t.val)) % 1024 = r.val / 256 * 256 + t.val
      omega
    · show ¬ 2 + r.val / 512 < 2
      omega

theorem v14_val (r : Fin 1024) (n : Fin 4096) : (W12 m c main_v14 : S1024x4096.Idx → EReal) (ix2 r n)
    = ∑ x : Fin 4096, ctx w.X w.Wd w.Wuk w.Wuv w.Wq w.Wqr w.Wkr (bOf r) (sOf r) x * w.Wo (ix2 x n) := by
  rw [W12_self, o12, arr8]
  exact mm_sum _ _ (fun x => v13_val h c r x) (fun x => congrFun (((congrFun (congrFun (V11_eq m).symm c) _).trans (V11_arg m _ c 7)).trans (h.wo c)) _)

/-- The program's result on every device. -/
theorem result_val : (V13 m (outs m) c main_v15 : S4x256x4096.Idx → EReal) = layer w.X w.Wd w.Wuk w.Wuv w.Wq w.Wqr w.Wkr w.Wo := by
  funext i
  rw [V13, host9, V12_eq]
  pointwise
  refine (v14_val h c _ (i 2)).trans ?_
  rw [bOf_flat _ (i 0) (i 1) rfl, sOf_flat _ (i 0) (i 1) rfl]
  rfl

end Cert.KernelIdeal.Talk

end
-- ==== Proof.Reference.lean ====
/-
  At the ideal instance the reference's result is the layer's output on its arguments, and a device's arguments are its parts of them.
-/
module

public import proofs.«01_k».proof.Proof.KernelIdeal.Layer
public import proofs.«01_k».proof.Proof.Gen.ReferenceIdeal.Run

@[expose] public section

noncomputable section

namespace Cert.KernelIdeal.Talk

open Idealize.ShloMosaic Idealize.ShloMosaic.TcCoe

variable (m' : (ℓ : Loc Cert.ReferenceIdeal.nD Cert.ReferenceIdeal.τ Cert.ReferenceIdeal.sig) → Buf (Elt Ideal) ℓ)

/-- The reference's arguments. -/
def args (c : Dev Cert.ReferenceIdeal.nD) : Whole where
  X := m' ((c.tc : Thread Cert.ReferenceIdeal.nD Cert.ReferenceIdeal.τ).loc Cert.ReferenceIdeal.main_arg0)
  Wd := m' ((c.tc : Thread Cert.ReferenceIdeal.nD Cert.ReferenceIdeal.τ).loc Cert.ReferenceIdeal.main_arg1)
  Wuk := m' ((c.tc : Thread Cert.ReferenceIdeal.nD Cert.ReferenceIdeal.τ).loc Cert.ReferenceIdeal.main_arg2)
  Wuv := m' ((c.tc : Thread Cert.ReferenceIdeal.nD Cert.ReferenceIdeal.τ).loc Cert.ReferenceIdeal.main_arg3)
  Wq := m' ((c.tc : Thread Cert.ReferenceIdeal.nD Cert.ReferenceIdeal.τ).loc Cert.ReferenceIdeal.main_arg4)
  Wqr := m' ((c.tc : Thread Cert.ReferenceIdeal.nD Cert.ReferenceIdeal.τ).loc Cert.ReferenceIdeal.main_arg5)
  Wkr := m' ((c.tc : Thread Cert.ReferenceIdeal.nD Cert.ReferenceIdeal.τ).loc Cert.ReferenceIdeal.main_arg6)
  Wo := m' ((c.tc : Thread Cert.ReferenceIdeal.nD Cert.ReferenceIdeal.τ).loc Cert.ReferenceIdeal.main_arg7)

theorem sum_at {n : ℕ} {f g : Fin n → EReal} (h : ∀ x, f x = g x) : ∑ x, f x = ∑ x, g x := Finset.sum_congr rfl fun x _ => h x

theorem reference_val (c : Dev Cert.ReferenceIdeal.nD) :
    (Cert.ReferenceIdeal.Value.res_main_v37 m' c : FVec Ideal Cert.ReferenceIdeal.S4x256x4096 .f32)
      = layer (args m' c).X (args m' c).Wd (args m' c).Wuk (args m' c).Wuv (args m' c).Wq (args m' c).Wqr (args m' c).Wkr (args m' c).Wo := by
  funext i
  pointwise [Cert.ReferenceIdeal.Value.res_main_v37]
  refine sum_at fun x => congrArg (fun v : EReal => v * _) ?_
  unfold ctx att
  refine sum_at fun t => ?_
  exact mul_comm _ _

/-- The latent axis's columns that a device holds. -/
theorem block_cols (c : Dev Cert.KernelIdeal.nD) (W : (⟨2, ![4096, 512]⟩ : Shape).Idx → EReal) (x : Fin 4096) (j : Fin 128) :
    (Layout.blockN ⟨2, ![4096, 128]⟩ ⟨2, ![4096, 512]⟩ (Layout.meshBlock [2, 4, 4] ![[], [1]] c) W : (⟨2, ![4096, 128]⟩ : Shape).Idx → EReal) (ix2 x j)
      = W (ix2 x (lane (yIx c) j)) := by
  rw [Layout.blockN_apply]
  refine congrArg W (funext fun b => Fin.ext ?_)
  match b with
  | 0 => show 0 * 4096 + x.val = x.val; omega
  | 1 => show Layout.meshLin [2, 4, 4] c.val [1] * 128 + j.val = yOf c * 128 + j.val
         rw [show Layout.meshLin [2, 4, 4] c.val [1] = yOf c by revert c; decide +kernel]

/-- The latent axis's rows that a device holds. -/
theorem block_rows (c : Dev Cert.KernelIdeal.nD) (W : (⟨2, ![512, 4096]⟩ : Shape).Idx → EReal) (j : Fin 128) (n : Fin 4096) :
    (Layout.blockN ⟨2, ![128, 4096]⟩ ⟨2, ![512, 4096]⟩ (Layout.meshBlock [2, 4, 4] ![[1], []] c) W : (⟨2, ![128, 4096]⟩ : Shape).Idx → EReal) (ix2 j n)
      = W (ix2 (lane (yIx c) j) n) := by
  rw [Layout.blockN_apply]
  refine congrArg W (funext fun b => Fin.ext ?_)
  match b with
  | 0 => show Layout.meshLin [2, 4, 4] c.val [1] * 128 + j.val = yOf c * 128 + j.val
         rw [show Layout.meshLin [2, 4, 4] c.val [1] = yOf c by revert c; decide +kernel]
  | 1 => show 0 * 4096 + n.val = n.val; omega

/-- Devices that hold their parts of the reference's arguments. -/
theorem fits (m : (ℓ : Loc Cert.KernelIdeal.nD Cert.KernelIdeal.τ Cert.KernelIdeal.sig) → Buf (Elt Ideal) ℓ) (d : Dev Cert.ReferenceIdeal.nD)
    (h0 : ∀ c : Dev Cert.KernelIdeal.nD, m ((c.tc : Thread _ _).loc Cert.KernelIdeal.main_arg0) = (args m' d).X)
    (h1 : ∀ c : Dev Cert.KernelIdeal.nD, m ((c.tc : Thread _ _).loc Cert.KernelIdeal.main_arg1)
      = Layout.blockN ⟨2, ![4096, 128]⟩ ⟨2, ![4096, 512]⟩ (Layout.meshBlock [2, 4, 4] ![[], [1]] c) (args m' d).Wd)
    (h2 : ∀ c : Dev Cert.KernelIdeal.nD, m ((c.tc : Thread _ _).loc Cert.KernelIdeal.main_arg2)
      = Layout.blockN ⟨2, ![128, 4096]⟩ ⟨2, ![512, 4096]⟩ (Layout.meshBlock [2, 4, 4] ![[1], []] c) (args m' d).Wuk)
    (h3 : ∀ c : Dev Cert.KernelIdeal.nD, m ((c.tc : Thread _ _).loc Cert.KernelIdeal.main_arg3)
      = Layout.blockN ⟨2, ![128, 4096]⟩ ⟨2, ![512, 4096]⟩ (Layout.meshBlock [2, 4, 4] ![[1], []] c) (args m' d).Wuv)
    (h4 : ∀ c : Dev Cert.KernelIdeal.nD, m ((c.tc : Thread _ _).loc Cert.KernelIdeal.main_arg4) = (args m' d).Wq)
    (h5 : ∀ c : Dev Cert.KernelIdeal.nD, m ((c.tc : Thread _ _).loc Cert.KernelIdeal.main_arg5) = (args m' d).Wqr)
    (h6 : ∀ c : Dev Cert.KernelIdeal.nD, m ((c.tc : Thread _ _).loc Cert.KernelIdeal.main_arg6) = (args m' d).Wkr)
    (h7 : ∀ c : Dev Cert.KernelIdeal.nD, m ((c.tc : Thread _ _).loc Cert.KernelIdeal.main_arg7) = (args m' d).Wo) : Fits m (args m' d) where
  x := h0
  wd c x j := (congrFun (h1 c) _).trans (block_cols c _ x j)
  wuk c j n := (congrFun (h2 c) _).trans (block_rows c _ j n)
  wuv c j n := (congrFun (h3 c) _).trans (block_rows c _ j n)
  wq := h4
  wqr := h5
  wkr := h6
  wo := h7

end Cert.KernelIdeal.Talk

end
-- ==== Proof.lean ====
module

public import proofs.«01_k».proof.Defs
public import proofs.«01_k».proof.Proof.Gen.Kernel.Regions
public import proofs.«01_k».proof.Proof.Gen.Kernel.Points
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Own.Kernel.RegionsD
public import proofs.«01_k».proof.Proof.Gen.Own.KernelIdeal.RegionsD
public import proofs.«01_k».proof.Proof.Kernel.Run
public import proofs.«01_k».proof.Proof.KernelIdeal.Run
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.TcCoe

theorem frame_kernel : Cert.quiescent_Kernel := fun m ρ _ =>
  (θ_run Cert.Kernel.defs _ _).mono (fun _ h => ⟨fun c => (h.1 c).2, h.2⟩) (Cert.Kernel.Talk.run_kept (F := Bits) m ρ)

theorem frame_ideal : Cert.quiescent_KernelIdeal := fun m ρ _ =>
  (θ_run Cert.KernelIdeal.defs _ _).mono (fun _ h => ⟨fun c => (h.1 c).2, h.2⟩) (Cert.KernelIdeal.Talk.run_kept (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the layer's output on the whole arguments. -/
theorem algebraic : Cert.algebraic_KernelIdeal_ReferenceIdeal := fun m ρ m' ρ' _ hm =>
  have hf := Cert.KernelIdeal.Talk.fits m' m 0 (fun c => (hm c).1) (fun c => (hm c).2.1) (fun c => (hm c).2.2.1) (fun c => (hm c).2.2.2.1)
    (fun c => (hm c).2.2.2.2.1) (fun c => (hm c).2.2.2.2.2.1) (fun c => (hm c).2.2.2.2.2.2.1) (fun c => (hm c).2.2.2.2.2.2.2)
  ⟨Cert.ReferenceIdeal.Value.res_main_v37 m' 0,
    (θ_run Cert.KernelIdeal.defs _ _).mono (fun _ h c => ⟨(h.1 c).1.trans
        ((Cert.KernelIdeal.Talk.result_val hf c).trans (Cert.KernelIdeal.Talk.reference_val m' 0).symm), (h.1 c).2⟩)
      (Cert.KernelIdeal.Talk.run_kept (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
